-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_in_clip [hKernelIdeal : Cert.KernelIdeal.Facts] [hReferenceIdeal : Cert.ReferenceIdeal.Facts] [hOn_in_clip : Cert.On_in_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 256]⟩ : Shape).Idx, (Layout.block ⟨2, ![8192, 256]⟩ ⟨2, ![8192, 4096]⟩ 1 16 c ((Cert.On_in_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![8192, 256]⟩ : Shape).Idx → _) i = 1#1 → r.2.mem ((c.tc : Thread Cert.KernelIdeal.nD Cert.KernelIdeal.τ).loc Cert.KernelIdeal.main_v1) i = (Layout.block ⟨2, ![8192, 256]⟩ ⟨2, ![8192, 4096]⟩ 1 16 c v0 : (⟨2, ![8192, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![8192, 4096]⟩ : Shape).Idx, (Cert.On_in_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_in_clip : Cert.On_in_clip.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_in_clip (hKernelIdeal := hKernelIdeal) (hReferenceIdeal := hReferenceIdeal) (hOn_in_clip := hOn_in_clip)
    ∧ algebraic_KernelIdeal_SiluIdeal (hKernelIdeal := hKernelIdeal) (hSiluIdeal := hSiluIdeal)
-- ==== On_in_clip.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_cst : FVec F S_ .f32 := constant S_ .f32 0xC2700000#32
  let main_v1 : FVec F S8192x4096 .f32 := broadcastInDim S8192x4096 ![] bcast_S_S8192x4096 main_cst
  let main_v2 : IVec S8192x4096 1 := cmpf .oge main_v0 main_v1
  let main_cst_0 : FVec F S_ .f32 := constant S_ .f32 0x42700000#32
  let main_v3 : FVec F S8192x4096 .f32 := broadcastInDim S8192x4096 ![] bcast_S_S8192x4096 main_cst_0
  let main_v4 : IVec S8192x4096 1 := cmpf .ole main_v0 main_v3
  let main_v5 : IVec S8192x4096 1 := andi main_v2 main_v4
  main_v5
-- ==== Kernel.lean ====
abbrev S512x8192 : Shape := ⟨2, ![512, 8192]⟩
abbrev S8192x4096 : Shape := ⟨2, ![8192, 4096]⟩
abbrev S8192x256 : Shape := ⟨2, ![8192, 256]⟩
abbrev S2x8192x256 : Shape := ⟨3, ![2, 8192, 256]⟩
abbrev S15x512x256 : Shape := ⟨3, ![15, 512, 256]⟩
abbrev S16x512x256 : Shape := ⟨3, ![16, 512, 256]⟩
abbrev S2 : Shape := ⟨1, ![2]⟩
abbrev S15 : Shape := ⟨1, ![15]⟩
abbrev S16 : Shape := ⟨1, ![16]⟩
abbrev S_ : Shape := ⟨0, ![]⟩
abbrev S1 : Shape := ⟨1, ![1]⟩
abbrev S1x8192x256 : Shape := ⟨3, ![1, 8192, 256]⟩
abbrev S512x256 : Shape := ⟨2, ![512, 256]⟩
abbrev S1x512x256 : Shape := ⟨3, ![1, 512, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x8192, .f32⟩
  | .hbm, ⟨1, _⟩ => ⟨S8192x4096, .f32⟩
  | .hbm, ⟨2, _⟩ => ⟨S8192x256, .f32⟩
  | .local _ .vmem, ⟨0, _⟩ => ⟨S512x8192, .f32⟩
  | .local _ .vmem, ⟨1, _⟩ => ⟨S8192x256, .f32⟩
  | .local _ .vmem, ⟨2, _⟩ => ⟨S512x8192, .bf16⟩
  | .local _ .vmem, ⟨3, _⟩ => ⟨S2x8192x256, .f32⟩
  | .local _ .vmem, ⟨4, _⟩ => ⟨S15x512x256, .bf16⟩
  | .local _ .vmem, ⟨5, _⟩ => ⟨S16x512x256, .bf16⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_65 : BitVec 32) : Fin 2 → Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v70 : BitVec 32 := Scalar.addi v2 c1_i32_64
  let v71 : BitVec 32 := Scalar.addi v70 c0_i32_65
  let c16_i32_66 : BitVec 32 := 16#32
  let v72 : BitVec 32 := Scalar.remsi v71 c16_i32_66
  let c256_i32 : BitVec 32 := 256#32
  let v73 : BitVec 32 := Scalar.muli v72 c256_i32
  ![0, v73.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_105 : BitVec 32 := 0#32
  let c0_i32_106 : BitVec 32 := 0#32
  ![v2.toNat, 0, 0]
def k0_dev16 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_98 : BitVec 32 := 1#32
  let v106 : BitVec 32 := Scalar.addi v2 c1_i32_98
  let c0_i32_99 : BitVec 32 := 0#32
  let v107 : BitVec 32 := Scalar.addi v106 c0_i32_99
  let c16_i32_100 : BitVec 32 := 16#32
  let v108 : BitVec 32 := Scalar.remsi v107 c16_i32_100
  let c1_i32_103 : BitVec 32 := 1#32
  let v109 : BitVec 32 := Scalar.muli v108 c1_i32_103
  let v110 : BitVec 32 := Scalar.addi c0_i32_104 v109
  v110.toNat
def k0_dev17 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  let v146 : BitVec 32 := Scalar.addi v2 c1_i32_135
  let c1_i32_136 : BitVec 32 := 1#32
  let v147 : BitVec 32 := Scalar.addi v146 c1_i32_136
  let c16_i32_137 : BitVec 32 := 16#32
  let v148 : BitVec 32 := Scalar.remsi v147 c16_i32_137
  let c1_i32_140 : BitVec 32 := 1#32
  let v149 : BitVec 32 := Scalar.muli v148 c1_i32_140
  let v150 : BitVec 32 := Scalar.addi c0_i32_141 v149
  v150.toNat
def k0_dev18 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_172 : BitVec 32 := 1#32
  let v186 : BitVec 32 := Scalar.addi v2 c1_i32_172
  let c2_i32_173 : BitVec 32 := 2#32
  let v187 : BitVec 32 := Scalar.addi v186 c2_i32_173
  let c16_i32_174 : BitVec 32 := 16#32
  let v188 : BitVec 32 := Scalar.remsi v187 c16_i32_174
  let c1_i32_177 : BitVec 32 := 1#32
  let v189 : BitVec 32 := Scalar.muli v188 c1_i32_177
  let v190 : BitVec 32 := Scalar.addi c0_i32_178 v189
  v190.toNat
def k0_dev19 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_209 : BitVec 32 := 1#32
  let v226 : BitVec 32 := Scalar.addi v2 c1_i32_209
  let c3_i32_210 : BitVec 32 := 3#32
  let v227 : BitVec 32 := Scalar.addi v226 c3_i32_210
  let c16_i32_211 : BitVec 32 := 16#32
  let v228 : BitVec 32 := Scalar.remsi v227 c16_i32_211
  let c1_i32_214 : BitVec 32 := 1#32
  let v229 : BitVec 32 := Scalar.muli v228 c1_i32_214
  let v230 : BitVec 32 := Scalar.addi c0_i32_215 v229
  v230.toNat
def k0_dev20 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_246 : BitVec 32 := 1#32
  let v266 : BitVec 32 := Scalar.addi v2 c1_i32_246
  let c4_i32_247 : BitVec 32 := 4#32
  let v267 : BitVec 32 := Scalar.addi v266 c4_i32_247
  let c16_i32_248 : BitVec 32 := 16#32
  let v268 : BitVec 32 := Scalar.remsi v267 c16_i32_248
  let c1_i32_251 : BitVec 32 := 1#32
  let v269 : BitVec 32 := Scalar.muli v268 c1_i32_251
  let v270 : BitVec 32 := Scalar.addi c0_i32_252 v269
  v270.toNat
def k0_dev21 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_283 : BitVec 32 := 1#32
  let v306 : BitVec 32 := Scalar.addi v2 c1_i32_283
  let c5_i32_284 : BitVec 32 := 5#32
  let v307 : BitVec 32 := Scalar.addi v306 c5_i32_284
  let c16_i32_285 : BitVec 32 := 16#32
  let v308 : BitVec 32 := Scalar.remsi v307 c16_i32_285
  let c1_i32_288 : BitVec 32 := 1#32
  let v309 : BitVec 32 := Scalar.muli v308 c1_i32_288
  let v310 : BitVec 32 := Scalar.addi c0_i32_289 v309
  v310.toNat
def k0_dev22 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_320 : BitVec 32 := 1#32
  let v346 : BitVec 32 := Scalar.addi v2 c1_i32_320
  let c6_i32_321 : BitVec 32 := 6#32
  let v347 : BitVec 32 := Scalar.addi v346 c6_i32_321
  let c16_i32_322 : BitVec 32 := 16#32
  let v348 : BitVec 32 := Scalar.remsi v347 c16_i32_322
  let c1_i32_325 : BitVec 32 := 1#32
  let v349 : BitVec 32 := Scalar.muli v348 c1_i32_325
  let v350 : BitVec 32 := Scalar.addi c0_i32_326 v349
  v350.toNat
def k0_dev23 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_357 : BitVec 32 := 1#32
  let v386 : BitVec 32 := Scalar.addi v2 c1_i32_357
  let c7_i32_358 : BitVec 32 := 7#32
  let v387 : BitVec 32 := Scalar.addi v386 c7_i32_358
  let c16_i32_359 : BitVec 32 := 16#32
  let v388 : BitVec 32 := Scalar.remsi v387 c16_i32_359
  let c1_i32_362 : BitVec 32 := 1#32
  let v389 : BitVec 32 := Scalar.muli v388 c1_i32_362
  let v390 : BitVec 32 := Scalar.addi c0_i32_363 v389
  v390.toNat
def k0_dev24 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_394 : BitVec 32 := 1#32
  let v426 : BitVec 32 := Scalar.addi v2 c1_i32_394
  let c8_i32_395 : BitVec 32 := 8#32
  let v427 : BitVec 32 := Scalar.addi v426 c8_i32_395
  let c16_i32_396 : BitVec 32 := 16#32
  let v428 : BitVec 32 := Scalar.remsi v427 c16_i32_396
  let c1_i32_399 : BitVec 32 := 1#32
  let v429 : BitVec 32 := Scalar.muli v428 c1_i32_399
  let v430 : BitVec 32 := Scalar.addi c0_i32_400 v429
  v430.toNat
def k0_dev25 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_431 : BitVec 32 := 1#32
  let v466 : BitVec 32 := Scalar.addi v2 c1_i32_431
  let c9_i32_432 : BitVec 32 := 9#32
  let v467 : BitVec 32 := Scalar.addi v466 c9_i32_432
  let c16_i32_433 : BitVec 32 := 16#32
  let v468 : BitVec 32 := Scalar.remsi v467 c16_i32_433
  let c1_i32_436 : BitVec 32 := 1#32
  let v469 : BitVec 32 := Scalar.muli v468 c1_i32_436
  let v470 : BitVec 32 := Scalar.addi c0_i32_437 v469
  v470.toNat
def k0_dev26 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_468 : BitVec 32 := 1#32
  let v506 : BitVec 32 := Scalar.addi v2 c1_i32_468
  let c10_i32_469 : BitVec 32 := 10#32
  let v507 : BitVec 32 := Scalar.addi v506 c10_i32_469
  let c16_i32_470 : BitVec 32 := 16#32
  let v508 : BitVec 32 := Scalar.remsi v507 c16_i32_470
  let c1_i32_473 : BitVec 32 := 1#32
  let v509 : BitVec 32 := Scalar.muli v508 c1_i32_473
  let v510 : BitVec 32 := Scalar.addi c0_i32_474 v509
  v510.toNat
def k0_dev27 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_505 : BitVec 32 := 1#32
  let v546 : BitVec 32 := Scalar.addi v2 c1_i32_505
  let c11_i32_506 : BitVec 32 := 11#32
  let v547 : BitVec 32 := Scalar.addi v546 c11_i32_506
  let c16_i32_507 : BitVec 32 := 16#32
  let v548 : BitVec 32 := Scalar.remsi v547 c16_i32_507
  let c1_i32_510 : BitVec 32 := 1#32
  let v549 : BitVec 32 := Scalar.muli v548 c1_i32_510
  let v550 : BitVec 32 := Scalar.addi c0_i32_511 v549
  v550.toNat
def k0_dev28 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_542 : BitVec 32 := 1#32
  let v586 : BitVec 32 := Scalar.addi v2 c1_i32_542
  let c12_i32_543 : BitVec 32 := 12#32
  let v587 : BitVec 32 := Scalar.addi v586 c12_i32_543
  let c16_i32_544 : BitVec 32 := 16#32
  let v588 : BitVec 32 := Scalar.remsi v587 c16_i32_544
  let c1_i32_547 : BitVec 32 := 1#32
  let v589 : BitVec 32 := Scalar.muli v588 c1_i32_547
  let v590 : BitVec 32 := Scalar.addi c0_i32_548 v589
  v590.toNat
def k0_dev29 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_579 : BitVec 32 := 1#32
  let v626 : BitVec 32 := Scalar.addi v2 c1_i32_579
  let c13_i32_580 : BitVec 32 := 13#32
  let v627 : BitVec 32 := Scalar.addi v626 c13_i32_580
  let c16_i32_581 : BitVec 32 := 16#32
  let v628 : BitVec 32 := Scalar.remsi v627 c16_i32_581
  let c1_i32_584 : BitVec 32 := 1#32
  let v629 : BitVec 32 := Scalar.muli v628 c1_i32_584
  let v630 : BitVec 32 := Scalar.addi c0_i32_585 v629
  v630.toNat
def k0_dev30 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_616 : BitVec 32 := 1#32
  let v666 : BitVec 32 := Scalar.addi v2 c1_i32_616
  let c14_i32_617 : BitVec 32 := 14#32
  let v667 : BitVec 32 := Scalar.addi v666 c14_i32_617
  let c16_i32_618 : BitVec 32 := 16#32
  let v668 : BitVec 32 := Scalar.remsi v667 c16_i32_618
  let c1_i32_621 : BitVec 32 := 1#32
  let v669 : BitVec 32 := Scalar.muli v668 c1_i32_621
  let v670 : BitVec 32 := Scalar.addi c0_i32_622 v669
  v670.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v701 : BitVec 32 := Scalar.muli v2 c512_i32
  let v702 : Index := Scalar.indexCast v701
  let c0_645 : Index := 0#32
  ![v702.toNat, 0]
def k0_off5 (d0 : Dev nD) (c1_i32_646 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v704 : BitVec 32 := Scalar.subi v2 c1_i32_646
  let c16_i32_647 : BitVec 32 := 16#32
  let v705 : BitVec 32 := Scalar.addi v704 c16_i32_647
  let c16_i32_648 : BitVec 32 := 16#32
  let v706 : BitVec 32 := Scalar.remsi v705 c16_i32_648
  ![v706.toNat]
def k0_off6 (d0 : Dev nD) (c1_i32_646 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v704 : BitVec 32 := Scalar.subi v2 c1_i32_646
  let c16_i32_647 : BitVec 32 := 16#32
  let v705 : BitVec 32 := Scalar.addi v704 c16_i32_647
  let c16_i32_648 : BitVec 32 := 16#32
  let v706 : BitVec 32 := Scalar.remsi v705 c16_i32_648
  let c0_i32_653 : BitVec 32 := 0#32
  let c0_i32_654 : BitVec 32 := 0#32
  ![v706.toNat, 0, 0]
def k0_off7 (d0 : Dev nD) (c1_i32_646 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v704 : BitVec 32 := Scalar.subi v2 c1_i32_646
  let c16_i32_647 : BitVec 32 := 16#32
  let v705 : BitVec 32 := Scalar.addi v704 c16_i32_647
  let c16_i32_648 : BitVec 32 := 16#32
  let v706 : BitVec 32 := Scalar.remsi v705 c16_i32_648
  let v715 : Index := Scalar.indexCast v706
  let c0_657 : Index := 0#32
  let c0_658 : Index := 0#32
  ![v715.toNat, 0, 0]
def k0_off8 (d0 : Dev nD) (c1_i32_646 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v704 : BitVec 32 := Scalar.subi v2 c1_i32_646
  let c16_i32_647 : BitVec 32 := 16#32
  let v705 : BitVec 32 := Scalar.addi v704 c16_i32_647
  let c16_i32_648 : BitVec 32 := 16#32
  let v706 : BitVec 32 := Scalar.remsi v705 c16_i32_648
  let c512_i32_662 : BitVec 32 := 512#32
  let v727 : BitVec 32 := Scalar.muli v706 c512_i32_662
  let v728 : Index := Scalar.indexCast v727
  let c0_663 : Index := 0#32
  ![v728.toNat, 0]
abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Uniform.lean ====
/-
# The kernel body as one program over step numbers

The printed body is straight-line text: fifteen signals, a wait, fifteen steps each with its own literal slot
numbers, a last step, fifteen receives and fifteen waits for the sends. Here the same operations are written once,
at a step number, and the body is shown equal to their repetition (`body_eq`). Everything after this file speaks
about a step at a number.
-/
module

public import proofs.«01_k».proof.Proof.Gen.KernelIdeal
public import proofs.«01_k».proof.Proof.Gen.KernelIdeal.Skeleton
public import Idealize.ShloMosaic.Lib.Tactic

@[expose] public section

noncomputable section

namespace Cert.DistSilu

open Cert.KernelIdeal Cert.KernelIdeal.Gen
open Idealize.ShloMosaic Idealize.ShloMosaic.TcCoe
open Idealize.SL Idealize.SL.Sem

variable {F : FTy → Type} [FloatOps F]

/-! ## The buffers and their pieces -/

abbrev xM : Memref sig .tc .vmem S512x8192 .f32 := Memref.whole cc0_stg0_0
abbrev wM : Memref sig .tc .hbm S8192x4096 .f32 := Memref.whole main_arg1
abbrev oM : Memref sig .tc .vmem S8192x256 .f32 := Memref.whole cc0_stg1_0
abbrev bM : Memref sig .tc .vmem S512x8192 .bf16 := Memref.whole cc0_scratch0
abbrev wbM : Memref sig .tc .vmem S2x8192x256 .f32 := Memref.whole cc0_scratch1
abbrev sbM : Memref sig .tc .vmem S15x512x256 .bf16 := Memref.whole cc0_scratch2
abbrev rbM : Memref sig .tc .vmem S16x512x256 .bf16 := Memref.whole cc0_scratch3

/-- The runtime's barrier semaphore. -/
abbrev barS : Sem sig := (SemArray.scalar (sig.barrier 0 rfl) : Sems sig S_).sem

theorem wInb : ∀ p : Fin 2, ∀ a, (![p.val, 0, 0] : Fin 3 → Nat) a + S1x8192x256.size a ≤ S2x8192x256.size a := by decide
theorem wsInb : ∀ p : Fin 2, ∀ a, (![p.val] : Fin 1 → Nat) a + S1.size a ≤ S2.size a := by decide
theorem sInb : ∀ s : Fin 15, ∀ a, (![s.val, 0, 0] : Fin 3 → Nat) a + S1x512x256.size a ≤ S15x512x256.size a := by decide
theorem ssInb : ∀ s : Fin 15, ∀ a, (![s.val] : Fin 1 → Nat) a + S1.size a ≤ S15.size a := by decide

/-- The slots of the buffers by number, and of the receive buffer at given offsets. -/
abbrev wR (p : Fin 2) : Rect S2x8192x256 := Rect.unit (s := S2x8192x256) ![p.val, 0, 0] S1x8192x256.size (wInb p)
abbrev sR (s : Fin 15) : Rect S15x512x256 := Rect.unit (s := S15x512x256) ![s.val, 0, 0] S1x512x256.size (sInb s)
abbrev xR : Rect S512x8192 := Rect.unit (s := S512x8192) ![0, 0] S512x8192.size inb_S512x8192_S512x8192_0_0

theorem sPacked : ∀ s : Fin 15, (sR s).PackedRows (EltTy.packing .bf16) := by decide +kernel
theorem sWords : ∀ s : Fin 15, (sR s).WholeWords (EltTy.packing .bf16) := by decide +kernel

abbrev wSlot (p : Fin 2) : Memref sig .tc .vmem S8192x256 .f32 :=
  (wbM.slice (wR p) (fun _ => rfl)).squeeze S8192x256 squeezes_S1x8192x256_S8192x256
abbrev wSem (p : Fin 2) : DmaSems sig S_ :=
  (cc0_scratch4.slice (Rect.unit (s := S2) ![p.val] S1.size (wsInb p))).squeeze S_ squeezes_S1_S_
abbrev wCol (c : Dev nD) (r : Fin 16) : Memref sig .tc .hbm S8192x256 .f32 :=
  wM.slice (Rect.unit (s := S8192x4096) (k0_off1 c (BitVec.ofNat 32 r.val)) S8192x256.size (k0_off1_inb c r)) (fun _ => rfl)
abbrev sSlot (s : Fin 15) : Memref sig .tc .vmem S512x256 .bf16 :=
  (sbM.slice (sR s) (fun _ => rfl)).squeeze S512x256 squeezes_S1x512x256_S512x256
abbrev sSem (s : Fin 15) : DmaSems sig S_ :=
  (cc0_scratch5.slice (Rect.unit (s := S15) ![s.val] S1.size (ssInb s))).squeeze S_ squeezes_S1_S_

/-- Where this device's blocks land at a peer: slot and semaphore of its own number. -/
abbrev dSlot (c : Dev nD) : Memref sig .tc .vmem S512x256 .bf16 :=
  (rbM.slice (Rect.unit (s := S16x512x256) (k0_off3 c) S1x512x256.size (k0_off3_inb c)) (fun _ => rfl)).squeeze S512x256 squeezes_S1x512x256_S512x256
abbrev dSem (c : Dev nD) : DmaSems sig S_ :=
  (cc0_scratch6.slice (Rect.unit (s := S16) (k0_off2 c) S1.size (k0_off2_inb c))).squeeze S_ squeezes_S1_S_

/-- What the `r`-th receive waits for, reads and writes. -/
abbrev gSlot (c : Dev nD) (r : Fin 15) : Memref sig .tc .vmem S512x256 .bf16 :=
  (rbM.slice (Rect.unit (s := S16x512x256) (k0_off6 c (BitVec.ofNat 32 (1 + r.val))) S1x512x256.size (k0_off6_inb c r)) (fun _ => rfl)).squeeze S512x256 squeezes_S1x512x256_S512x256
abbrev gSem (c : Dev nD) (r : Fin 15) : DmaSems sig S_ :=
  (cc0_scratch6.slice (Rect.unit (s := S16) (k0_off5 c (BitVec.ofNat 32 (1 + r.val))) S1.size (k0_off5_inb c r))).squeeze S_ squeezes_S1_S_
abbrev gR (c : Dev nD) (r : Fin 15) : Rect S16x512x256 :=
  Rect.unit (s := S16x512x256) (k0_off7 c (BitVec.ofNat 32 (1 + r.val))) S1x512x256.size (k0_off7_inb c r)
abbrev goR (c : Dev nD) (r : Fin 15) : Rect S8192x256 :=
  Rect.unit (s := S8192x256) (k0_off8 c (BitVec.ofNat 32 (1 + r.val))) S512x256.size (k0_off8_inb c r)
abbrev ooR (c : Dev nD) : Rect S8192x256 :=
  Rect.unit (s := S8192x256) (k0_off4 c) S512x256.size (k0_off4_inb c)

/-! ## The operations at a number -/

/-- The kernel's programs. -/
abbrev TC (F : FTy → Type) : Type _ := Prog (TpuEff nD τ sig (Elt F) Λ₀ .tc) PUnit

/-- The device the `i`-th signal names. -/
def barDev (c : Dev nD) : ℕ → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
  | 9 => ⟨k0_dev10 c, k0_dev10_lt c⟩
  | 10 => ⟨k0_dev11 c, k0_dev11_lt c⟩
  | 11 => ⟨k0_dev12 c, k0_dev12_lt c⟩
  | 12 => ⟨k0_dev13 c, k0_dev13_lt c⟩
  | 13 => ⟨k0_dev14 c, k0_dev14_lt c⟩
  | _ => ⟨k0_dev15 c, k0_dev15_lt c⟩

/-- The device the `i`-th remote copy names. -/
def cpyDev (c : Dev nD) : ℕ → Dev nD
  | 0 => ⟨k0_dev16 c, k0_dev16_lt c⟩
  | 1 => ⟨k0_dev17 c, k0_dev17_lt c⟩
  | 2 => ⟨k0_dev18 c, k0_dev18_lt c⟩
  | 3 => ⟨k0_dev19 c, k0_dev19_lt c⟩
  | 4 => ⟨k0_dev20 c, k0_dev20_lt c⟩
  | 5 => ⟨k0_dev21 c, k0_dev21_lt c⟩
  | 6 => ⟨k0_dev22 c, k0_dev22_lt c⟩
  | 7 => ⟨k0_dev23 c, k0_dev23_lt c⟩
  | 8 => ⟨k0_dev24 c, k0_dev24_lt c⟩
  | 9 => ⟨k0_dev25 c, k0_dev25_lt c⟩
  | 10 => ⟨k0_dev26 c, k0_dev26_lt c⟩
  | 11 => ⟨k0_dev27 c, k0_dev27_lt c⟩
  | 12 => ⟨k0_dev28 c, k0_dev28_lt c⟩
  | 13 => ⟨k0_dev29 c, k0_dev29_lt c⟩
  | _ => ⟨k0_dev30 c, k0_dev30_lt c⟩

/-- Repetition: `n` rounds of `body`, from round `i`, then `k`. -/
def rep {P : Type _} (body : ℕ → P → P) : (n i : ℕ) → P → P
  | 0, _, k => k
  | n + 1, i, k => body i (rep body n (i + 1) k)

/-- Step numbers out of range stand for the last; no round uses one. -/
abbrev s15 (i : ℕ) : Fin 15 := ⟨i % 15, Nat.mod_lt _ (by decide)⟩
abbrev s16 (i : ℕ) : Fin 16 := ⟨i % 16, Nat.mod_lt _ (by decide)⟩
abbrev par (i : ℕ) : Fin 2 := ⟨i % 2, Nat.mod_lt _ (by decide)⟩

def sigOp (c : Dev nD) (i : ℕ) (k : TC F) : TC F :=
  (semSignalWord (barDev c i) barS 1#32 : TC F).bind fun _ => k

def enqAt (c : Dev nD) (r : Fin 16) (p : Fin 2) (k : TC F) : TC F :=
  .op (.enqueueDma (wCol c r) (.here (wSlot p)) (.dma (wSem p).sem)
    (View.wordExact_bits rfl) ((View.wordExact_bits rfl).reshape _ _) ⟨Or.inl rfl, trivial⟩) fun _ => k

def waitAt (c : Dev nD) (r : Fin 16) (p : Fin 2) (k : TC F) : TC F :=
  .op (.waitDma2 (wSem p).sem (wCol c r) (wSlot p)
    (View.wordExact_bits rfl) ((View.wordExact_bits rfl).reshape _ _)) fun _ => k

/-- One product and its remote copy. -/
def prodAt (c n : Dev nD) (p : Fin 2) (s : Fin 15) (k : TC F) : TC F :=
  .op (.load bM xR.toLoadRect (View.loadsAt_vmem h_S512x8192)) fun v =>
  .op (.load wbM (wR p).toLoadRect (View.loadsAt_vmem h_S1x8192x256)) fun w =>
  .op (.load sbM (sR s).toLoadRect (View.loadsAt_vmem h_S1x512x256)) fun _ =>
  .op (.store sbM (sR s) (k0_pay4 v w) Finset.univ
    (View.stores_vmem h_S1x512x256 ((Memref.isWhole_whole _).storeExact_slice rfl _ (sPacked s)) (fun _ => rfl)) (.inl rfl)) fun _ =>
  .op (.enqueueDma (sSlot s) (.remote (Dev.tc n) (dSlot c) (.dma (sSem s).sem)) (.dma (dSem c).sem)
    (((Memref.isWhole_whole _).wordExact_slice rfl _ (sWords s)).reshape _ _)
    (((Memref.isWhole_whole _).wordExact_slice rfl _ (k0_off3_wordsbf16 c)).reshape _ _) ⟨⟨rfl, Or.inl rfl⟩, trivial⟩) fun _ => k

def enqOp (c : Dev nD) (i : ℕ) (k : TC F) : TC F := enqAt c (s16 i) (par i) k
def waitOp (c : Dev nD) (i : ℕ) (k : TC F) : TC F := waitAt c (s16 i) (par i) k
def prodOp (c : Dev nD) (i : ℕ) (k : TC F) : TC F := prodAt c (cpyDev c i) (par i) (s15 i) k

/-- One step: the next column block is fetched, this one awaited, multiplied and sent. -/
def stepOp (c : Dev nD) (i : ℕ) (k : TC F) : TC F := enqOp c (i + 1) (waitOp c i (prodOp c i k))

/-- The last step: this device's own block goes to the result. -/
def lastOp (c : Dev nD) (k : TC F) : TC F :=
  waitOp c 15 <|
  .op (.load bM xR.toLoadRect (View.loadsAt_vmem h_S512x8192)) fun v =>
  .op (.load wbM (wR (par 15)).toLoadRect (View.loadsAt_vmem h_S1x8192x256)) fun w =>
  .op (.load oM (ooR c).toLoadRect (View.loadsAt_vmem h_S512x256)) fun _ =>
  .op (.store oM (ooR c) (k0_pay20 v w) Finset.univ (View.stores_vmem_bits_univ h_S512x256 rfl) (.inl rfl)) fun _ => k

/-- One receive: the block from the device `1 + s` before this one goes to its rows of the result. -/
def recvAt (c : Dev nD) (s : Fin 15) (k : TC F) : TC F :=
  .op (.waitDma2 (gSem c s).sem (gSlot c s) (gSlot c s)
    (((Memref.isWhole_whole _).wordExact_slice rfl _ (k0_off6_wordsbf16 c s)).reshape _ _)
    (((Memref.isWhole_whole _).wordExact_slice rfl _ (k0_off6_wordsbf16 c s)).reshape _ _)) fun _ =>
  .op (.load rbM (gR c s).toLoadRect (View.loadsAt_vmem h_S1x512x256)) fun v =>
  .op (.load oM (goR c s).toLoadRect (View.loadsAt_vmem h_S512x256)) fun _ =>
  .op (.store oM (goR c s) (k0_pay24 v) Finset.univ (View.stores_vmem_bits_univ h_S512x256 rfl) (.inl rfl)) fun _ => k

/-- One send awaited. -/
def sentAt (c : Dev nD) (s : Fin 15) (k : TC F) : TC F :=
  .op (.waitDma2 (sSem s).sem (dSlot c) (sSlot s)
    (((Memref.isWhole_whole _).wordExact_slice rfl _ (k0_off3_wordsbf16 c)).reshape _ _)
    (((Memref.isWhole_whole _).wordExact_slice rfl _ (sWords s)).reshape _ _)) fun _ => k

def recvOp (c : Dev nD) (i : ℕ) (k : TC F) : TC F := recvAt c (s15 i) k
def sentOp (c : Dev nD) (i : ℕ) (k : TC F) : TC F := sentAt c (s15 i) k

/-- The rounding of this device's block of the first factor. -/
def castOp (k : TC F) : TC F :=
  .op (.load xM xR.toLoadRect (View.loadsAt_vmem h_S512x8192)) fun v =>
  .op (.load bM xR.toLoadRect (View.loadsAt_vmem h_S512x8192)) fun _ =>
  .op (.store bM xR (k0_pay1 v) Finset.univ
    (View.stores_vmem h_S512x8192 ((Memref.isWhole_whole _).storeExact_slice rfl _ packedbf16_S512x8192_S512x8192_0_0) (fun _ => rfl)) (.inl rfl)) fun _ => k

/-- The whole body on device `c`. -/
def bodyOn (c : Dev nD) : TC F :=
  rep (sigOp c) 15 0 <|
  (semWaitWord barS 15#32 : TC F).bind fun _ =>
  castOp <|
  enqOp c 0 <|
  rep (stepOp c) 15 0 <|
  lastOp c <|
  rep (recvOp c) 15 0 <|
  rep (sentOp c) 15 0 <|
  .ret ⟨⟩

set_option maxRecDepth 65536 in
theorem body_eq :
    cc0_body_skel (F := F) xM (Memref.isWhole_whole _) wM (Memref.isWhole_whole _) oM (Memref.isWhole_whole _)
      bM (Memref.isWhole_whole _) wbM (Memref.isWhole_whole _) sbM (Memref.isWhole_whole _) rbM (Memref.isWhole_whole _)
      cc0_scratch4 cc0_scratch5 cc0_scratch6
    = .op .deviceId fun c => bodyOn c := by
  sl_kernel_rfl

end Cert.DistSilu
-- ==== Proof.Protocol.lean ====
/-
# The protocol

Sixteen devices. Device `c` at the start signals the barrier semaphore of each of the fifteen others and waits for
fifteen units on its own: a unit from device `e` says that `e` has entered the kernel, and carries `e`'s receive slot
number `c`, the one `c` writes. Then, at step `i < 15`, device `c` forms its row block of the product against the column
block of device `pk c i` (the one `1 + i` after it), rounds it into send slot `i`, and copies it to slot `c` of that
device's receive buffer; the copy counts on `c`'s send semaphore `i` and on the peer's receive semaphore `c`. At the end
device `c` waits on the receive semaphore of each other device, from the one before it backwards, and then on its own
fifteen send semaphores.

Who waits and who pays:
* barrier semaphore of `c`: waited for by `c` (fifteen units), paid one unit by each other device `e`, with `e`'s receive slot `c`;
* receive semaphore `j` of `c`, `j ≠ c`: waited for by `c`, paid by device `j`'s copy, with slot `j` of `c` holding `j`'s rounded block `sent j c`;
* send semaphore `i` of `c`: waited for by `c`, paid by `c`'s own `i`-th copy, with its send slot `i` back;
* receive semaphore `c` of `c`: nobody pays, nobody waits.

The copies of the second factor's column blocks into the two slots of the column buffer are local, one at a time on
each of the two slot semaphores.
-/
module

public import proofs.«01_k».proof.Proof.Uniform
public import proofs.«01_k».proof.Proof.Gen.KernelIdeal.Launch
public import Idealize.ShloMosaic.Lib.Pipeline.Launch
public import Idealize.ShloMosaic.Lib.Pipeline.Kit
public import Idealize.ShloMosaic.Lib.Transfers

@[expose] public section

noncomputable section

namespace Cert.DistSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, the rounds' (duties named by devices), and the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := Emb.trans Emb.inl embR
abbrev EC : UEmb Counters (MT nD τ sig Unit (Elt F) ℕ UU ℕ) := countersEmb (U := UU)

/-- The rounds' copy lies in the storable part of the algebra. -/
instance ER_lands : (ER (F := F)).LandsIn (upEmb : UEmb _ (MT nD τ sig Unit (Elt F) ℕ UU ℕ)) := by
  unfold ER; infer_instance

/-- The counters' copy too. -/
instance EC_lands : (EC (F := F)).LandsIn (upEmb : UEmb _ (MT nD τ sig Unit (Elt F) ℕ UU ℕ)) := by
  infer_instance

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The peers -/

/-- The device `1 + i` after `c`. -/
def pk (c : Dev nD) (i : ℕ) : Dev nD := ⟨(c.val + 1 + i) % 16, Nat.mod_lt _ (by decide)⟩
/-- The device `1 + i` before `c`, for `i < 15`. -/
def src (c : Dev nD) (i : ℕ) : Dev nD := ⟨(c.val + (15 - i)) % 16, Nat.mod_lt _ (by decide)⟩

theorem src_pk : ∀ (c : Dev nD) (i : Fin 15), src (pk c i.val) i.val = c := by decide
theorem pk_src : ∀ (c : Dev nD) (i : Fin 15), pk (src c i.val) i.val = c := by decide
theorem pk_ne : ∀ (c : Dev nD) (i : Fin 15), pk c i.val ≠ c := by decide
theorem src_ne : ∀ (c : Dev nD) (i : Fin 15), src c i.val ≠ c := by decide
theorem pk_inj : ∀ (c : Dev nD) (i j : Fin 15), pk c i.val = pk c j.val → i = j := by decide +kernel
theorem src_inj : ∀ (c : Dev nD) (i j : Fin 15), src c i.val = src c j.val → i = j := by decide +kernel
theorem pk_surj : ∀ (c d : Dev nD), d ≠ c → ∃ i : Fin 15, pk c i.val = d := by decide +kernel
theorem src_surj : ∀ (c d : Dev nD), d ≠ c → ∃ i : Fin 15, src c i.val = d := by decide +kernel

theorem barDev_eq : ∀ (c : Dev nD) (i : Fin 15), barDev c i.val = pk c i.val := by decide +kernel
theorem cpyDev_eq : ∀ (c : Dev nD) (i : Fin 15), cpyDev c i.val = pk c i.val := by decide +kernel

/-! ## Slots and semaphores by device -/

theorem rInb : ∀ j : Dev nD, ∀ a, (![j.val, 0, 0] : Fin 3 → Nat) a + S1x512x256.size a ≤ S16x512x256.size a := by decide
theorem rsInb : ∀ j : Dev nD, ∀ a, (![j.val] : Fin 1 → Nat) a + S1.size a ≤ S16.size a := by decide
theorem cInb : ∀ d : Dev nD, ∀ a, (![0, 256 * d.val] : Fin 2 → Nat) a + S8192x256.size a ≤ S8192x4096.size a := by decide
theorem oInb : ∀ j : Dev nD, ∀ a, (![512 * j.val, 0] : Fin 2 → Nat) a + S512x256.size a ≤ S8192x256.size a := by decide

abbrev rR (j : Dev nD) : Rect S16x512x256 := Rect.unit (s := S16x512x256) ![j.val, 0, 0] S1x512x256.size (rInb j)
/-- Slot `j` of the receive buffer: where device `j`'s block lands. -/
abbrev rSlot (j : Dev nD) : Memref sig .tc .vmem S512x256 .bf16 :=
  (rbM.slice (rR j) (fun _ => rfl)).squeeze S512x256 squeezes_S1x512x256_S512x256
abbrev rSem (j : Dev nD) : DmaSems sig S_ :=
  (cc0_scratch6.slice (Rect.unit (s := S16) ![j.val] S1.size (rsInb j))).squeeze S_ squeezes_S1_S_
/-- Column block `d` of the second factor. -/
abbrev wAt (d : Dev nD) : Memref sig .tc .hbm S8192x256 .f32 :=
  wM.slice (Rect.unit (s := S8192x4096) ![0, 256 * d.val] S8192x256.size (cInb d)) (fun _ => rfl)
/-- Row block `j` of the result. -/
abbrev oR (j : Dev nD) : Rect S8192x256 := Rect.unit (s := S8192x256) ![512 * j.val, 0] S512x256.size (oInb j)

theorem slot_congr {off off' : Fin 3 → Nat} (h : off = off') (p : ∀ a, off a + S1x512x256.size a ≤ S16x512x256.size a)
    (p' : ∀ a, off' a + S1x512x256.size a ≤ S16x512x256.size a) :
    ((rbM.slice (Rect.unit (s := S16x512x256) off S1x512x256.size p) (fun _ => rfl)).squeeze S512x256 squeezes_S1x512x256_S512x256 : Memref sig .tc .vmem S512x256 .bf16)
      = (rbM.slice (Rect.unit (s := S16x512x256) off' S1x512x256.size p') (fun _ => rfl)).squeeze S512x256 squeezes_S1x512x256_S512x256 := by
  subst h; rfl

theorem sem_congr {off off' : Fin 1 → Nat} (h : off = off') (p : ∀ a, off a + S1.size a ≤ S16.size a) (p' : ∀ a, off' a + S1.size a ≤ S16.size a) :
    ((cc0_scratch6.slice (Rect.unit (s := S16) off S1.size p)).squeeze S_ squeezes_S1_S_ : DmaSems sig S_)
      = (cc0_scratch6.slice (Rect.unit (s := S16) off' S1.size p')).squeeze S_ squeezes_S1_S_ := by
  subst h; rfl

theorem col_congr {off off' : Fin 2 → Nat} (h : off = off') (p : ∀ a, off a + S8192x256.size a ≤ S8192x4096.size a)
    (p' : ∀ a, off' a + S8192x256.size a ≤ S8192x4096.size a) :
    (wM.slice (Rect.unit (s := S8192x4096) off S8192x256.size p) (fun _ => rfl) : Memref sig .tc .hbm S8192x256 .f32)
      = wM.slice (Rect.unit (s := S8192x4096) off' S8192x256.size p') (fun _ => rfl) := by
  subst h; rfl

theorem dSlot_eq (c : Dev nD) : dSlot c = rSlot c := slot_congr (k0_off3_eq c) _ _
theorem dSem_eq (c : Dev nD) : dSem c = rSem c := sem_congr (k0_off2_eq c) _ _
theorem sub15 (c : Dev nD) (r : Fin 15) : ((c.val + 15) - r.val) % 16 = (src c r.val).val := by
  have := r.isLt; show _ = (c.val + (15 - r.val)) % 16; congr 1; omega
theorem gSlot_eq (c : Dev nD) (r : Fin 15) : gSlot c r = rSlot (src c r.val) :=
  slot_congr ((k0_off6_eq c r).trans (by rw [← sub15])) _ _
theorem gSem_eq (c : Dev nD) (r : Fin 15) : gSem c r = rSem (src c r.val) :=
  sem_congr ((k0_off5_eq c r).trans (by rw [← sub15])) _ _
theorem gR_eq (c : Dev nD) (r : Fin 15) : gR c r = rR (src c r.val) :=
  Rect.unit_congr ((k0_off7_eq c r).trans (by rw [← sub15])) _ _
theorem goR_eq (c : Dev nD) (r : Fin 15) : goR c r = oR (src c r.val) :=
  Rect.unit_congr ((k0_off8_eq c r).trans (by rw [← sub15])) _ _
theorem ooR_eq (c : Dev nD) : ooR c = oR c := Rect.unit_congr (k0_off4_eq c) _ _
theorem wCol_eq (c : Dev nD) (r : Fin 16) : wCol c r = wAt (pk c r.val) :=
  col_congr ((k0_off1_eq c r).trans (by
    rw [show c.val + r.val + 1 = c.val + 1 + r.val from by omega]; rfl)) _ _

/-! ## The cells -/

abbrev sendS (i : Fin 15) : DmaSem sig := (sSem i).sem
abbrev recvS (j : Dev nD) : DmaSem sig := (rSem j).sem

abbrev barCell (c : Dev nD) : GSem nD τ sig := ((c : Thread nD τ), .reg barS)
abbrev sendCell (c : Dev nD) (i : Fin 15) : GSem nD τ sig := ((c : Thread nD τ), .dma (sendS i))
abbrev recvCell (c j : Dev nD) : GSem nD τ sig := ((c : Thread nD τ), .dma (recvS j))

/-- What a semaphore is to the protocol. -/
inductive CellKind where
  | bar
  | send (i : Fin 15)
  | recv (j : Dev nD)
  | other
  deriving DecidableEq

/-- Told from its number: the send semaphores are 4 to 18, the receive semaphores 19 to 34. -/
def kind : SemLoc sig → CellKind
  | .reg _ => .bar
  | .dma q => if h : 19 ≤ q.val then .recv ⟨(q.val - 19) % 16, Nat.mod_lt _ (by decide)⟩
      else if 4 ≤ q.val then .send ⟨(q.val - 4) % 15, Nat.mod_lt _ (by decide)⟩ else .other

theorem kind_bar : kind (.reg barS) = .bar := rfl
theorem kind_send : ∀ i : Fin 15, kind (.dma (sendS i)) = .send i := by decide +kernel
theorem kind_recv : ∀ j : Dev nD, kind (.dma (recvS j)) = .recv j := by decide +kernel
theorem kind_w : ∀ p : Fin 2, kind (.dma (wSem p).sem) = .other := by decide +kernel

/-- The count of one block on a semaphore. -/
abbrev N : ℕ := (sSlot 0).view.dmaCredit
theorem N_pos : 0 < N := View.dmaCredit_pos _ (by decide)

/-! ## The contents -/

/-- Device `c`'s block of the first factor, as the kernel is given it. -/
def xst (c : Dev nD) : (cc0_stg0_0 : Ref sig .tc).ty.Contents (Elt F) :=
  (win0_0.blk (0 : Fin 1)).view.read (Elt F) ((s₀ m ρ).mem ((c : Thread nD τ).loc main_arg0))
/-- The second factor on device `c`. -/
def wOf (c : Dev nD) : (main_arg1 : Ref sig .tc).ty.Contents (Elt F) := (s₀ m ρ).mem ((c : Thread nD τ).loc main_arg1)

/-- The first factor's block, rounded. -/
def xbf (c : Dev nD) : Vec F S512x8192 .bf16 := k0_pay1 (xst m ρ c)
/-- The second factor's column block `d` on device `c`. -/
def wblk (c d : Dev nD) : Vec F S8192x256 .f32 := (wAt d).view.read (Elt F) (wOf m ρ c)

/-- The product of a rounded row block with a column block, rounded first. -/
def prodF (x : Vec F S512x8192 .bf16) (w : FVec F S8192x256 .f32) : FVec F S512x256 .f32 :=
  matmul dot_S512x8192_S8192x256_S512x256_1_0_0_1_n_n none x (truncf .bf16 w bitsLt_bf16_f32)
    (constant S512x256 .f32 0x00000000#32)
/-- What device `c` sends to device `d`. -/
def sent (c d : Dev nD) : FVec F S512x256 .bf16 := truncf .bf16 (prodF (xbf m ρ c) (wblk m ρ c d)) bitsLt_bf16_f32
/-- The epilogue: `y * (1 / (1 + exp (0 - y)))`. -/
def siluF (y : FVec F S512x256 .f32) : FVec F S512x256 .f32 :=
  mulf y (divf (broadcast S512x256 (Scalar.ofBits .f32 0x3F800000#32))
    (addf (broadcast S512x256 (Scalar.ofBits .f32 0x3F800000#32)) (exp (subf (broadcast S512x256 (Scalar.ofBits .f32 0x00000000#32)) y))))
/-- Row block `j` of device `c`'s result: from its own product, or from what device `j` sent it. -/
def outBlk (c j : Dev nD) : FVec F S512x256 .f32 :=
  if j = c then siluF (prodF (xbf m ρ c) (wblk m ρ c c)) else siluF (extf .f32 (sent m ρ j c) bitsLt_bf16_f32)
/-- Device `c`'s result. -/
def outF (c : Dev nD) : (cc0_stg1_0 : Ref sig .tc).ty.Contents (Elt F) := fun i =>
  outBlk m ρ c ⟨(i 0).val / 512, by have : (i 0).val < 8192 := (i 0).isLt; show _ < 16; omega⟩
    (fun a => match a with
      | ⟨0, _⟩ => ⟨(i 0).val % 512, Nat.mod_lt _ (by decide)⟩
      | ⟨1, _⟩ => ⟨(i 1).val, (i 1).isLt⟩)

theorem pay4_eq (v : Vec F S512x8192 .bf16) (w : Vec F S1x8192x256 .f32) :
    k0_pay4 v w = shapeCast S1x512x256 (truncf .bf16 (prodF v (shapeCast S8192x256 w shapeCasts_S1x8192x256_S8192x256)) bitsLt_bf16_f32 : FVec F S512x256 .bf16)
      shapeCasts_S512x256_S1x512x256 := rfl
theorem pay20_eq (v : Vec F S512x8192 .bf16) (w : Vec F S1x8192x256 .f32) :
    k0_pay20 v w = siluF (prodF v (shapeCast S8192x256 w shapeCasts_S1x8192x256_S8192x256)) := rfl
theorem pay24_eq (v : Vec F S1x512x256 .bf16) :
    k0_pay24 v = siluF (extf .f32 (shapeCast S512x256 v shapeCasts_S1x512x256_S512x256 : FVec F S512x256 .bf16) bitsLt_bf16_f32) := rfl

/-! ## The schedule -/

/-- A slot at any contents. -/
def anySlot (c : Dev nD) (M : Memref sig .tc .vmem S512x256 .bf16) : sProp 𝕄 :=
  iprop(∃ f, M.view.loc (c : Thread nD τ) ↦[M.view.set]{fullShare} f)
/-- A slot at contents that read as `v`. -/
def slotAt (c : Dev nD) (M : Memref sig .tc .vmem S512x256 .bf16) (v : FVec F S512x256 .bf16) : sProp 𝕄 :=
  iprop(∃ f, ⌜M.view.read (Elt F) f = v⌝ ∗ (M.view.loc (c : Thread nD τ) ↦[M.view.set]{fullShare} f))

omit [FloatOps F] in
instance anySlot_storable (c : Dev nD) (M) : BI.Storable (upEmb : UEmb _ 𝕄) (anySlot (F := F) c M) := by unfold anySlot; infer_instance
omit [FloatOps F] in
instance slotAt_storable (c : Dev nD) (M) (v) : BI.Storable (upEmb : UEmb _ 𝕄) (slotAt (F := F) c M v) := by unfold slotAt; infer_instance

/-- What device `e`'s unit on `c`'s barrier carries: `e`'s receive slot `c`, and that `e` is at the first round of the
    semaphore the copy counts on. -/
def barPay (c e : Dev nD) : sProp 𝕄 := iprop(anySlot e (rSlot c) ∗ reached ER (recvCell e c) 0)

/-- The protocol in one round. -/
def rd : Rounds.Schedule (GSem nD τ sig) (Dev nD) 𝕄 where
  duties g r := if r = 0 ∧ g.1.2 = .tc then
      match kind g.2 with
      | .bar => Finset.univ.erase g.1.1
      | .send _ => {0}
      | .recv j => if j = g.1.1 then ∅ else {0}
      | .other => ∅
    else ∅
  unitless _ := False
  amount g _ _ := match kind g.2 with
    | .bar => 1
    | _ => N
  payload g _ d := match kind g.2 with
    | .bar => barPay g.1.1 d
    | .send i => anySlot g.1.1 (sSlot i)
    | .recv j => slotAt g.1.1 (rSlot j) (sent m ρ j g.1.1)
    | .other => iprop(emp)
  amount_pos g _ _ _ := by
    cases kind g.2
    · exact Nat.one_pos
    all_goals exact N_pos

instance rd_payload_storable (g : GSem nD τ sig) (r : ℕ) (d : Dev nD) :
    BI.Storable (upEmb : UEmb _ 𝕄) ((rd (F := F) m ρ).payload g r d) := by
  show BI.Storable upEmb (match kind g.2 with
    | .bar => barPay g.1.1 d
    | .send i => anySlot g.1.1 (sSlot i)
    | .recv j => slotAt g.1.1 (rSlot j) (sent m ρ j g.1.1)
    | .other => iprop(emp))
  unfold barPay
  cases kind g.2 <;> infer_instance

section Sched
variable (c : Dev nD)

theorem duties_bar : (rd (F := F) m ρ).duties (barCell c) 0 = Finset.univ.erase c := by
  dsimp only [rd]; rw [if_pos ⟨rfl, rfl⟩, kind_bar]
theorem duties_send (i : Fin 15) : (rd (F := F) m ρ).duties (sendCell c i) 0 = {0} := by
  dsimp only [rd]; rw [if_pos ⟨rfl, rfl⟩, kind_send]
theorem duties_recv (j : Dev nD) (h : j ≠ c) : (rd (F := F) m ρ).duties (recvCell c j) 0 = {0} := by
  dsimp only [rd]; rw [if_pos ⟨rfl, rfl⟩, kind_recv]; exact if_neg h
theorem duties_self (r : ℕ) : (rd (F := F) m ρ).duties (recvCell c c) r = ∅ := by
  dsimp only [rd]; rw [kind_recv]; dsimp only; rw [if_pos rfl, ite_self]
theorem duties_later (g : GSem nD τ sig) : ∀ r, 1 ≤ r → (rd (F := F) m ρ).duties g r = ∅ :=
  fun r hr => by dsimp only [rd]; rw [if_neg fun h => by omega]

theorem amount_bar (d : Dev nD) : (rd (F := F) m ρ).amount (barCell c) 0 d = 1 := by dsimp only [rd]; rw [kind_bar]
theorem amount_send (i : Fin 15) (d : Dev nD) : (rd (F := F) m ρ).amount (sendCell c i) 0 d = N := by dsimp only [rd]; rw [kind_send]
theorem amount_recv (j : Dev nD) (d : Dev nD) : (rd (F := F) m ρ).amount (recvCell c j) 0 d = N := by dsimp only [rd]; rw [kind_recv]

theorem expect_bar : (rd (F := F) m ρ).expect (barCell c) 0 = 15 := by
  unfold Schedule.expect Schedule.amountOf
  rw [duties_bar, Finset.sum_congr rfl fun d _ => amount_bar m ρ c d, Finset.sum_const, Finset.card_erase_of_mem (Finset.mem_univ _)]
  rfl
theorem expect_send (i : Fin 15) : (rd (F := F) m ρ).expect (sendCell c i) 0 = N := by
  unfold Schedule.expect Schedule.amountOf; rw [duties_send, Finset.sum_singleton, amount_send]
theorem expect_recv (j : Dev nD) (h : j ≠ c) : (rd (F := F) m ρ).expect (recvCell c j) 0 = N := by
  unfold Schedule.expect Schedule.amountOf; rw [duties_recv m ρ c j h, Finset.sum_singleton, amount_recv]

theorem payload_bar (d : Dev nD) : (rd (F := F) m ρ).payload (barCell c) 0 d = barPay c d := by dsimp only [rd]; rw [kind_bar]
theorem payload_send (i : Fin 15) (d : Dev nD) : (rd (F := F) m ρ).payload (sendCell c i) 0 d = anySlot c (sSlot i) := by
  dsimp only [rd]; rw [kind_send]
theorem payload_recv (j d : Dev nD) : (rd (F := F) m ρ).payload (recvCell c j) 0 d = slotAt c (rSlot j) (sent m ρ j c) := by
  dsimp only [rd]; rw [kind_recv]

theorem rest_bar : bigSep ((rd (F := F) m ρ).duties (barCell c) 0 \ ∅) (fun d => (rd (F := F) m ρ).payload (barCell c) 0 d)
    = bigSep (Finset.univ.erase c) (fun d => barPay (F := F) c d) := by
  rw [Finset.sdiff_empty, duties_bar]; simp only [payload_bar]
theorem rest_send (i : Fin 15) : bigSep ((rd (F := F) m ρ).duties (sendCell c i) 0 \ ∅) (fun d => (rd (F := F) m ρ).payload (sendCell c i) 0 d)
    = anySlot c (sSlot i) := by
  rw [Finset.sdiff_empty, duties_send, bigSep_singleton, payload_send]
theorem rest_recv (j : Dev nD) (h : j ≠ c) : bigSep ((rd (F := F) m ρ).duties (recvCell c j) 0 \ ∅) (fun d => (rd (F := F) m ρ).payload (recvCell c j) 0 d)
    = slotAt c (rSlot j) (sent m ρ j c) := by
  rw [Finset.sdiff_empty, duties_recv m ρ c j h, bigSep_singleton, payload_recv]

end Sched

/-! ## What a device owes; the levels -/

/-- The barrier units device `c` has still to give before its `k`-th signal. -/
def OB (c : Dev nD) (k : ℕ) : CellTallies nD τ sig Unit := ∑ i ∈ Finset.Ico k 15, tallyAt (barCell (pk c i)) () 1
/-- The copies it has still to make before step `k`. -/
def OR (c : Dev nD) (k : ℕ) : CellTallies nD τ sig Unit := ∑ i ∈ Finset.Ico k 15, tallyAt (recvCell (pk c i) c) () N

theorem ico_succ {k : ℕ} (h : k < 15) : Finset.Ico k 15 = insert k (Finset.Ico (k + 1) 15) := by
  ext x; rw [Finset.mem_insert, Finset.mem_Ico, Finset.mem_Ico]; omega
theorem not_mem_ico (k : ℕ) : k ∉ Finset.Ico (k + 1) 15 := by rw [Finset.mem_Ico]; omega

theorem OB_succ (c : Dev nD) {k : ℕ} (h : k < 15) : OB c k = OB c (k + 1) + tallyAt (barCell (pk c k)) () 1 := by
  unfold OB; rw [ico_succ h, Finset.sum_insert (not_mem_ico k), add_comm]
theorem OR_succ (c : Dev nD) {k : ℕ} (h : k < 15) : OR c k = OR c (k + 1) + tallyAt (recvCell (pk c k) c) () N := by
  unfold OR; rw [ico_succ h, Finset.sum_insert (not_mem_ico k), add_comm]
theorem OB_end (c : Dev nD) : OB c 15 = 0 := by unfold OB; rw [Finset.Ico_self, Finset.sum_empty]
theorem OR_end (c : Dev nD) : OR c 15 = 0 := by unfold OR; rw [Finset.Ico_self, Finset.sum_empty]

def O₀ (c : Dev nD) : CellTallies nD τ sig Unit := OR c 0 + OB c 0

def L (g : GSem nD τ sig) : Finset Unit := if g.1.2 = .tc then {()} else ∅
/-- Barrier semaphores at 1, receive semaphores at 2, everything else at 0. -/
def lv (g : GSem nD τ sig) (_ : Unit) : ℕ := match kind g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

/-- Everything in a tally is on a TensorCore's cell of level above `n`. -/
def Above (n : ℕ) (O : CellTallies nD τ sig Unit) : Prop := ∀ g u, 0 < O g u → () ∈ L g ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases h' : g = ((c : Thread nD τ), sm) ∧ u = ()
  · rw [h'.1, L_tc]; exact ⟨Finset.mem_singleton_self _, h⟩
  · rw [if_neg h'] at hg; exact absurd hg (Nat.lt_irrefl 0)
theorem Above.OB (c : Dev nD) (k : ℕ) : Above 0 (OB c k) :=
  Finset.sum_induction _ (Above 0) (fun _ _ => Above.add) (Above.zero 0) fun i _ => Above.tally _ _ _ (by unfold lv; rw [kind_bar]; decide)
theorem Above.OR (c : Dev nD) (k : ℕ) : Above 1 (OR c k) :=
  Finset.sum_induction _ (Above 1) (fun _ _ => Above.add) (Above.zero 1) fun i _ => Above.tally _ _ _ (by unfold lv; rw [kind_recv]; exact Nat.lt_succ_self 1)
theorem Above.mono {n n' : ℕ} {O : CellTallies nD τ sig Unit} (hn : n' ≤ n) (h : Above n O) : Above n' O :=
  fun g u hg => ⟨(h g u hg).1, lt_of_le_of_lt hn (h g u hg).2⟩
theorem Above.O₀ (c : Dev nD) : Above 0 (O₀ c) := (Above.mono (by decide) (Above.OR c 0)).add (Above.OB c 0)

omit [FloatOps F] in
theorem mayWait (c : Dev nD) (sm : SemLoc sig) {O : CellTallies nD τ sig Unit} {n : ℕ} (hn : lv ((c : Thread nD τ), sm) () = n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hn.le)
    (fun g u hg => (hO g u hg).2)

end Cert.DistSilu
-- ==== Proof.Ops.lean ====
/-
# One rule per operation of the body

Each operation of `Uniform` at a step number, from what the device holds before it to what it holds after.
-/
module

public import proofs.«01_k».proof.Proof.Protocol
public import Idealize.ShloMosaic.Lib.Tactic

@[expose] public section

noncomputable section

namespace Cert.DistSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The body's triples are stated with this. -/
abbrev WP (c : Dev nD) (p : TC F) (Q : PUnit → sProp 𝕄) : sProp 𝕄 :=
  wp frame (wpE (defs₀ (F := F)) 𝒱₀ (c : Thread nD τ) none) Set.univ p Q

/-! ## The cells and their records -/

/-- The protocol's semaphores: the barrier, the fifteen of the sends, the sixteen of the receives. -/
abbrev CI : Type := Option (Fin 15 ⊕ Dev nD)
abbrev csem : CI → SemLoc sig
  | none => .reg barS
  | some (.inl i) => .dma (sendS i)
  | some (.inr j) => .dma (recvS j)
abbrev kcell (ck : Dev nD × CI) : GSem nD τ sig := ((ck.1 : Thread nD τ), csem ck.2)

/-- What never changes: each cell's invariant under its name, that each cell has reached its round, the levels. -/
def records (K : Dev nD × CI → ℕ) : sProp 𝕄 :=
  iprop((bigSep Finset.univ fun ck : Dev nD × CI => cellInv ER (rd m ρ) (K ck) (kcell ck))
    ∗ (bigSep Finset.univ fun ck : Dev nD × CI => reached ER (kcell ck) 0)
    ∗ levAts L lv)

instance records_persistent (K : Dev nD × CI → ℕ) : BI.Persistent (records m ρ K) := by unfold records; infer_instance

omit [FloatOps F] in
theorem pick {I : Type} [Fintype I] [DecidableEq I] (Φ : I → sProp 𝕄) (i : I) : bigSep Finset.univ Φ ⊢ Φ i := bigSep_elim (Finset.mem_univ i)
theorem rec_inv (K : Dev nD × CI → ℕ) (ck : Dev nD × CI) : records m ρ K ⊢ cellInv ER (rd m ρ) (K ck) (kcell ck) := by
  unfold records; iintro ⟨H, -, -⟩
  iapply (pick (fun ck : Dev nD × CI => (cellInv ER (rd m ρ) (K ck) (kcell ck) : sProp 𝕄)) ck) $$ H
theorem rec_reached (K : Dev nD × CI → ℕ) (ck : Dev nD × CI) : records m ρ K ⊢ reached ER (kcell ck) 0 := by
  unfold records; iintro ⟨-, H, -⟩
  iapply (pick (fun ck : Dev nD × CI => (reached ER (kcell ck) 0 : sProp 𝕄)) ck) $$ H
theorem rec_lev (K : Dev nD × CI → ℕ) : records m ρ K ⊢ levAts L lv := by
  unfold records; iintro ⟨-, -, H⟩; iexact H

/-- What a device owes, whatever waits it has made. -/
def owe (c : Dev nD) (O : CellTallies nD τ sig Unit) : sProp 𝕄 := iprop(∃ W : Waits sig Unit, owes (c : Thread nD τ) O W)

/-! ## The barrier -/

variable (K : Dev nD × CI → ℕ)

theorem wp_sig (c : Dev nD) (i : Fin 15) (k : TC F) (Q : PUnit → sProp 𝕄) :
    iprop(records m ρ K ∗ owe c (OR c 0 + OB c i.val) ∗ dutyTok ER (barCell (pk c i.val)) 0 c ∗ anySlot c (rSlot (pk c i.val))
        ∗ (owe c (OR c 0 + OB c (i.val + 1)) -∗ WP c k Q))
      ⊢ WP c (sigOp c i.val k) Q := by
  unfold sigOp owe
  simp only [semSignalWord, Prog.lift, Prog.bind_op, Prog.bind_ret, barDev_eq]
  iintro ⟨#HR, ⟨%W, HO⟩, Ht, Hs, Hk⟩
  iapply (Rounds.wp_signal 𝒱₀ ER (rd m ρ) (c : Thread nD τ) none (dst := (pk c i.val : Thread nD τ)) (κ := K (pk c i.val, none))
      (d := c) (by rw [duties_bar]; exact Finset.mem_erase.mpr ⟨(pk_ne c i).symm, Finset.mem_univ _⟩)
      ((amount_bar m ρ (pk c i.val) c).trans (by decide)) () (O₀ := OR c 0 + OB c i.val) (OR c 0 + OB c (i.val + 1))
      (by rw [OB_succ c i.isLt, add_assoc]; rfl))
    $$ [HO Ht Hs]
  · isplitr; · iapply (rec_inv m ρ K (pk c i.val, none)); iexact HR
    isplitl [HO]; · iexact HO
    isplitl [Ht]; · iexact Ht
    isplitl [Hs]
    · rw [payload_bar]; unfold barPay
      isplitl [Hs]; · iexact Hs
      iapply (rec_reached m ρ K (c, some (.inr (pk c i.val)))); iexact HR
    · iapply (rec_reached m ρ K (pk c i.val, none)); iexact HR
  iintro HO
  iapply Hk; iexists W; iexact HO

set_option maxRecDepth 8000 in
theorem wp_barWait (c : Dev nD) (k : TC F) (Q : PUnit → sProp 𝕄) :
    iprop(records m ρ K ∗ owe c (OR c 0) ∗ cred (tallyAt (barCell c) () 15) ∗ atPos ER (barCell c) 0 ∅ 0
        ∗ ((owe c (OR c 0) ∗ atPos ER (barCell c) (0 + 1) ∅ 0 ∗ bigSep (Finset.univ.erase c) (fun d => barPay (F := F) c d)) -∗ WP c k Q))
      ⊢ WP c ((semWaitWord barS 15#32 : TC F).bind fun _ => k) Q := by
  unfold owe
  simp only [semWaitWord, Prog.lift, Prog.bind_op, Prog.bind_ret]
  iintro ⟨#HR, ⟨%W, HO⟩, Hc, Ha, Hk⟩
  iapply (Rounds.wp_wait_rest_token 𝒱₀ ER (rd m ρ) (c : Thread nD τ) none (κ := K (c, none))
      (wpE_semWait_eq 𝒱₀ (c : Thread nD τ) none Set.univ) (Set.mem_univ _) () (O := OR c 0) (W := W) (R := 0) (m := 0) (T := ∅)
      (by rw [expect_bar]; rfl)) $$ [Hc HO Ha]
  · isplitr; · iapply (rec_inv m ρ K (c, none)); iexact HR
    isplitl [Hc]; · iexact Hc
    isplitl [HO]; · iexact HO
    isplitr
    · iapply (mayWait (F := F) c (.reg barS) (n := 1) (by unfold lv; rw [kind_bar]) (Above.OR c 0))
      iapply (rec_lev m ρ K); iexact HR
    iexact Ha
  iintro ⟨HO, Ha, -, Hp⟩
  ihave Hp := (Entails.of_eq (rest_bar m ρ c)) $$ Hp
  iapply Hk
  isplitl [HO]; · iexists _; iexact HO
  isplitl [Ha]; · iexact Ha
  iexact Hp

/-! ## The remote copies -/

/-- A slot written whole reads as what was written. -/
theorem landed (d c : Dev nD) (fd : Buf (Elt F) ((rSlot c).view.loc (d : Thread nD τ))) {w v : FVec F S512x256 .bf16} (h : w = v) :
    ((rSlot c).view.loc (d : Thread nD τ) ↦[(rSlot c).view.set]{fullShare} ((rSlot c).view.write (Elt F) fd w Finset.univ) : sProp 𝕄)
      ⊢ slotAt d (rSlot c) v := by
  unfold slotAt
  iintro H
  iexists ((rSlot c).view.write (Elt F) fd w Finset.univ)
  isplitr
  · ipureintro; exact ((rSlot c).view.read_write_univ fd w).trans h
  · iexact H

/-- A copy into slot `c` of the device `pk c i`. -/
theorem wp_copy (c : Dev nD) (i : Fin 15) (n : Dev nD) (hn : n = pk c i.val) (D : Memref sig .tc .vmem S512x256 .bf16) (hD : D = rSlot c)
    (s : DmaSem sig) (hs : s = recvS c)
    {hsc : (D : Memref sig (Dev.tc n : Thread nD τ).2.kind .vmem S512x256 .bf16).view.ref.isScScratch = false}
    {hsrc : (sSlot i).view.WordExact} {hdst : D.view.WordExact}
    {hsem : DmaTarget.Typed .vmem (.dma s) (.remote (Dev.tc n : Thread nD τ) (D : Memref sig (Dev.tc n : Thread nD τ).2.kind .vmem S512x256 .bf16) (.dma (sSem i).sem) hsc)}
    (k : PUnit → TC F) (Q : PUnit → sProp 𝕄) :
    iprop(records m ρ K ∗ owe c (OR c i.val) ∗ slotAt c (sSlot i) (sent m ρ c (pk c i.val)) ∗ barPay c (pk c i.val)
        ∗ dutyTok ER (sendCell c i) 0 0 ∗ dutyTok ER (recvCell (pk c i.val) c) 0 0
        ∗ ((owe c (OR c (i.val + 1)) ∗ cred (tallyAt (sendCell c i) () N)) -∗ WP c (k ⟨⟩) Q))
      ⊢ WP c (.op (.enqueueDma (sSlot i) (.remote (Dev.tc n : Thread nD τ) D (.dma (sSem i).sem) hsc) (.dma s) hsrc hdst hsem) k) Q := by
  subst hn hD hs
  unfold owe slotAt barPay anySlot
  iintro ⟨#HR, ⟨%W, HO⟩, ⟨%fs, %hfs, Hs⟩, ⟨⟨%fd, Hd⟩, #Hrd⟩, HtS, HtR, Hk⟩
  iapply (Rounds.wp_send_pointsTo 𝒱₀ ER (rd m ρ) (c : Thread nD τ) none (κ₁ := K (c, some (.inl i))) (κ₂ := K (pk c i.val, some (.inr c)))
    (r₁ := 0) (r₂ := 0) (d₁ := 0) (d₂ := 0) (fs := fs) (fd := fd)
    (by rw [duties_send]; exact Finset.mem_singleton_self _)
    (by rw [duties_recv m ρ _ _ (pk_ne c i).symm]; exact Finset.mem_singleton_self _)
    () () N rfl (amount_send m ρ c i 0) (amount_recv m ρ (pk c i.val) c 0) (OR c (i.val + 1)) (OR_succ c i.isLt) (W := W)
    (by rw [payload_send]; unfold anySlot; iintro H; iexists fs; iexact H)
    (by rw [payload_recv]; exact landed (pk c i.val) c fd hfs))
    $$ [HO Hs Hd HtS HtR]
  · isplitr; · iapply (rec_inv m ρ K (c, some (.inl i))); iexact HR
    isplitr; · iapply (rec_inv m ρ K (pk c i.val, some (.inr c))); iexact HR
    isplitl [Hs]; · iexact Hs
    isplitl [Hd]; · iexact Hd
    isplitl [HO]; · iexact HO
    isplitl [HtS]; · iexact HtS
    isplitr; · iapply (rec_reached m ρ K (c, some (.inl i))); iexact HR
    isplitl [HtR]; · iexact HtR
    iexact Hrd
  iintro ⟨Hc, HO⟩
  iapply Hk
  isplitl [HO]; · iexists W; iexact HO
  iexact Hc

end Cert.DistSilu
-- ==== Proof.Local.lean ====
/-
# The operations on the device's own buffers

The local copies of the second factor's column blocks, the product's step, the rounding of the first factor, the
result's rows, and the waits for the remote copies.
-/
module

public import proofs.«01_k».proof.Proof.Ops
public import Idealize.ShloMosaic.Lib.Pipeline.Value

@[expose] public section

noncomputable section

namespace Cert.DistSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The local copies -/

/-- The share of the second factor that the copies into slot `p` read with: half each. -/
def wsh (p : Fin 2) : PosShare TreeShare := if p = 0 then fullShare.left else fullShare.right

abbrev wCell (c : Dev nD) (p : Fin 2) : GSem nD τ sig := ((c : Thread nD τ), .dma (wSem p).sem)

/-- The second factor, read with slot `p`'s share. -/
def wPts (c : Dev nD) (p : Fin 2) : sProp 𝕄 := ((c : Thread nD τ).loc main_arg1) ↦{wsh p} wOf m ρ c

/-- Slot `p` at rest. -/
def free (c : Dev nD) (p : Fin 2) : sProp 𝕄 :=
  iprop(semVal (wCell c p) 0 ∗ (∃ f, (wSlot p).view.loc (c : Thread nD τ) ↦[(wSlot p).view.set]{fullShare} f) ∗ wPts m ρ c p)
/-- Slot `p` at rest with column block `d` in it. -/
def held (c : Dev nD) (p : Fin 2) (d : Dev nD) : sProp 𝕄 :=
  iprop(semVal (wCell c p) 0
    ∗ (∃ f, ⌜(wSlot p).view.read (Elt F) f = wblk m ρ c d⌝ ∗ (wSlot p).view.loc (c : Thread nD τ) ↦[(wSlot p).view.set]{fullShare} f) ∗ wPts m ρ c p)
abbrev NW (p : Fin 2) : ℕ := (wSlot p).view.dmaCredit
theorem NW_pos (p : Fin 2) : 0 < NW p := View.dmaCredit_pos _ (by decide)
/-- Column block `d` on its way into slot `p`. -/
def fly (c : Dev nD) (p : Fin 2) (d : Dev nD) : sProp 𝕄 :=
  iprop(∃ fd : Buf (Elt F) ((wSlot p).view.loc (c : Thread nD τ)),
    Transfers.Flight EC (c : Thread nD τ) (.dma (wSem p).sem) () (NW p)
      iprop(((wSlot p).view.loc (c : Thread nD τ) ↦[(wSlot p).view.set]{fullShare}
          ((wSlot p).view.write (Elt F) fd ((wAt d).view.read (Elt F) (wOf m ρ c)) Finset.univ))
        ∗ ((wAt d).view.loc (c : Thread nD τ) ↦[(wAt d).view.set]{wsh p} wOf m ρ c))
    ∗ (((c : Thread nD τ).loc main_arg1) ↦[Finset.univ \ (wAt d).view.set]{wsh p} wOf m ρ c))

theorem held_free (c : Dev nD) (p : Fin 2) (d : Dev nD) : held m ρ c p d ⊢ free m ρ c p := by
  unfold held free
  iintro ⟨H1, ⟨%f, -, H2⟩, H3⟩
  isplitl [H1]; · iexact H1
  isplitl [H2]; · iexists f; iexact H2
  iexact H3

theorem wp_enq (c : Dev nD) (p : Fin 2) (d : Dev nD) (S : Memref sig .tc .hbm S8192x256 .f32) (hS : S = wAt d)
    {hsrc : S.view.WordExact} {hdst : (wSlot p).view.WordExact}
    {hsem : DmaTarget.Typed (nD := nD) (τ := τ) (sig := sig) (p := .tc) (s := S8192x256) (e := .f32) .hbm (.dma (wSem p).sem) (.here (wSlot p))}
    (k : PUnit → TC F) (Q : PUnit → sProp 𝕄) :
    iprop(free m ρ c p ∗ (fly m ρ c p d -∗ WP c (k ⟨⟩) Q))
      ⊢ WP c (.op (.enqueueDma S (.here (wSlot p)) (.dma (wSem p).sem) hsrc hdst hsem) k) Q := by
  subst hS
  unfold free wPts
  iintro ⟨⟨Hv, ⟨%fd, Hd⟩, Hw⟩, Hk⟩
  ihave Hw := (pointsTo_split_subset (Finset.subset_univ (wAt d).view.set)).1 $$ Hw
  icases Hw with ⟨Hs, Hr⟩
  iapply (Transfers.wp_dmaLocal EC 𝒱₀ (c : Thread nD τ) none (src := wAt d) (dst := wSlot p) (fs := wOf m ρ c) (fd := fd) (q := wsh p)
    (Sd := (wSlot p).view.set) () (NW p) rfl (NW_pos p) (Finset.Subset.refl _)) $$ [Hv Hd Hs]
  · isplitl [Hs]; · iexact Hs
    isplitl [Hd] <;> iassumption
  iintro Hf
  iapply Hk
  unfold fly
  iexists fd
  isplitl [Hf]; · iexact Hf
  iexact Hr

set_option maxRecDepth 8000 in
theorem wp_wait (c : Dev nD) (p : Fin 2) (d : Dev nD) (S : Memref sig .tc .hbm S8192x256 .f32) {O : CellTallies nD τ sig Unit} (hO : Above 0 O)
    {hsrc : S.view.WordExact} {hdst : (wSlot p).view.WordExact}
    (k : PUnit → TC F) (Q : PUnit → sProp 𝕄) :
    iprop(records m ρ K ∗ fly m ρ c p d ∗ owe c O ∗ ((held m ρ c p d ∗ owe c O) -∗ WP c (k ⟨⟩) Q))
      ⊢ WP c (.op (.waitDma2 (wSem p).sem S (wSlot p) hsrc hdst) k) Q := by
  unfold fly owe
  iintro ⟨#HR, ⟨%fd, Hf, Hr⟩, ⟨%W, HO⟩, Hk⟩
  iapply (Transfers.wp_waitLocalO EC 𝒱₀ (c : Thread nD τ) none () rfl) $$ [Hf HO]
  · isplitl [Hf]; · iexact Hf
    isplitl [HO]; · iexact HO
    iapply (mayWait (F := F) c (.dma (wSem p).sem) (n := 0) (by unfold lv; rw [kind_w]) hO)
    iapply (rec_lev m ρ K); iexact HR
  iintro ⟨⟨Hd, Hs⟩, Hv, HO⟩
  iapply Hk
  isplitr [HO]
  · unfold held wPts
    isplitl [Hv]; · iexact Hv
    isplitl [Hd]
    · iexists _
      isplitr
      · ipureintro; exact View.read_write_univ (v := (wSlot p).view) fd _
      · iexact Hd
    · iapply (pointsTo_split_subset (Finset.subset_univ (wAt d).view.set)).2
      isplitl [Hs]; · iexact Hs
      iexact Hr
  · iexists _; iexact HO

/-! ## The product's step -/

/-- A buffer whole. -/
abbrev buf (c : Dev nD) (b : Ref sig .tc) (f : Buf (Elt F) ((c : Thread nD τ).loc b)) : sProp 𝕄 := ((c : Thread nD τ).loc b) ↦{fullShare} f

omit [FloatOps F] in
theorem hz : (![0, 0] : Fin 2 → Nat) = fun _ => 0 := funext fun a => by fin_cases a <;> rfl
omit [FloatOps F] in
theorem read_x (f : (cc0_stg0_0 : Ref sig .tc).ty.Contents (Elt F)) : xM.view.readAt (Elt F) xR.toLoadRect f = f :=
  Memref.readAt_unit_zero (Elt F) cc0_stg0_0 hz _ f
omit [FloatOps F] in
theorem read_b (f : (cc0_scratch0 : Ref sig .tc).ty.Contents (Elt F)) : bM.view.readAt (Elt F) xR.toLoadRect f = f :=
  Memref.readAt_unit_zero (Elt F) cc0_scratch0 hz _ f
omit [FloatOps F] in
theorem write_b (f w : (cc0_scratch0 : Ref sig .tc).ty.Contents (Elt F)) :
    (bM.access xR : View sig .tc _ _ _).write (Elt F) f w Finset.univ = w :=
  Memref.write_access_unit_zero_univ (Elt F) cc0_scratch0 hz _ f w

omit [FloatOps F] in
/-- A send slot after the store reads as what was stored. -/
theorem stored (i : Fin 15) (f : (cc0_scratch2 : Ref sig .tc).ty.Contents (Elt F)) (y : FVec F S512x256 .bf16) :
    (sSlot i).view.read (Elt F) ((sbM.access (sR i) : View sig .tc _ _ _).write (Elt F) f (shapeCast S1x512x256 y shapeCasts_S512x256_S1x512x256) Finset.univ) = y := by
  rw [Memref.read_squeeze_slice sbM (sR i) (fun _ => rfl) squeezes_S1x512x256_S512x256 shapeCasts_S1x512x256_S512x256, View.readAt_rect,
    View.read_write_univ]
  exact shapeCast_shapeCast (s := S512x256) y _ _

theorem wp_cast (c : Dev nD) (k : TC F) (Q : PUnit → sProp 𝕄) :
    iprop(buf c cc0_stg0_0 (xst m ρ c) ∗ (∃ f, buf c cc0_scratch0 f)
        ∗ ((buf c cc0_stg0_0 (xst m ρ c) ∗ buf c cc0_scratch0 (xbf m ρ c)) -∗ WP c k Q))
      ⊢ WP c (castOp k) Q := by
  unfold castOp
  iintro ⟨Hx, ⟨%f, Hb⟩, Hk⟩
  iapply (wp_load 𝒱₀ (c : Thread nD τ) none Set.univ (m := xM) (Finset.subset_univ _)) $$ Hx; iintro Hx
  rw [read_x]
  iapply (wp_load 𝒱₀ (c : Thread nD τ) none Set.univ (m := bM) (Finset.subset_univ _)) $$ Hb; iintro Hb
  iapply (wp_store 𝒱₀ (c : Thread nD τ) none Set.univ (m := bM) (r := xR) (Mk := Finset.univ) (Finset.subset_univ _)) $$ Hb; iintro Hb
  rw [write_b]
  iapply Hk
  isplitl [Hx]; · iexact Hx
  iexact Hb

theorem s15_val (i : Fin 15) : s15 i.val = i := Fin.ext (Nat.mod_eq_of_lt i.isLt)

theorem wp_prod (c : Dev nD) (i : Fin 15) (k : TC F) (Q : PUnit → sProp 𝕄) :
    iprop(records m ρ K ∗ buf c cc0_scratch0 (xbf m ρ c) ∗ held m ρ c (par i.val) (pk c i.val) ∗ owe c (OR c i.val)
        ∗ anySlot c (sSlot i) ∗ barPay c (pk c i.val) ∗ dutyTok ER (sendCell c i) 0 0 ∗ dutyTok ER (recvCell (pk c i.val) c) 0 0
        ∗ ((buf c cc0_scratch0 (xbf m ρ c) ∗ free m ρ c (par i.val) ∗ owe c (OR c (i.val + 1)) ∗ cred (tallyAt (sendCell c i) () N)) -∗ WP c k Q))
      ⊢ WP c (prodOp c i.val k) Q := by
  unfold prodOp
  rw [s15_val]
  unfold prodAt
  unfold held anySlot
  iintro ⟨#HR, Hb, ⟨Hv, ⟨%fw, %hfw, Hw⟩, HW⟩, HO, ⟨%fs, Hs⟩, Hbp, HtS, HtR, Hk⟩
  iapply (wp_load 𝒱₀ (c : Thread nD τ) none Set.univ (m := bM) (Finset.subset_univ _)) $$ Hb; iintro Hb
  rw [read_b]
  iapply (wp_load_rect 𝒱₀ (c : Thread nD τ) none Set.univ (m := wbM) (r := wR (par i.val)) (S := (wSlot (par i.val)).view.set) (by rw [View.set_reshape])) $$ Hw; iintro Hw
  iapply (wp_load_rect 𝒱₀ (c : Thread nD τ) none Set.univ (m := sbM) (r := sR i) (S := (sSlot i).view.set) (by rw [View.set_reshape])) $$ Hs; iintro Hs
  iapply (wp_store 𝒱₀ (c : Thread nD τ) none Set.univ (m := sbM) (r := sR i) (Mk := Finset.univ) (S := (sSlot i).view.set) (by rw [View.set_reshape]; exact Finset.Subset.refl _)) $$ Hs; iintro Hs
  iapply (wp_copy m ρ K c i (cpyDev c i.val) (cpyDev_eq c i) (dSlot c) (dSlot_eq c) (dSem c).sem (by rw [dSem_eq]))
  isplitr; · iexact HR
  isplitl [HO]; · iexact HO
  isplitl [Hs]
  · unfold slotAt; iexists _
    isplitr
    rotate_left
    · iexact Hs
    · ipureintro
      rw [pay4_eq]
      refine (stored i _ _).trans ?_
      unfold sent
      rw [← hfw]
      rfl
  isplitl [Hbp]; · iexact Hbp
  isplitl [HtS]; · iexact HtS
  isplitl [HtR]; · iexact HtR
  iintro ⟨HO, Hc⟩
  iapply Hk
  isplitl [Hb]; · iexact Hb
  isplitr [HO Hc]
  · unfold free
    isplitl [Hv]; · iexact Hv
    isplitl [Hw]; · iexists fw; iexact Hw
    iexact HW
  isplitl [HO]; · iexact HO
  iexact Hc

end Cert.DistSilu
-- ==== Proof.Rows.lean ====
/-
# The result's rows

The last product and the receives: each writes one row block of the result. `outUpTo` is the result buffer with some row
blocks already at their final values.
-/
module

public import proofs.«01_k».proof.Proof.Local

@[expose] public section

noncomputable section

namespace Cert.DistSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-- The row block of an index of the result. -/
def rowDev (x : S8192x256.Idx) : Dev nD := ⟨(x 0).val / 512, by have : (x 0).val < 8192 := (x 0).isLt; show _ < 16; omega⟩
/-- Its place in that block. -/
def rowIn (x : S8192x256.Idx) : S512x256.Idx := fun a => match a with
  | ⟨0, _⟩ => ⟨(x 0).val % 512, Nat.mod_lt _ (by decide)⟩
  | ⟨1, _⟩ => ⟨(x 1).val, (x 1).isLt⟩

theorem outF_eq (c : Dev nD) (x : S8192x256.Idx) : outF m ρ c x = outBlk m ρ c (rowDev x) (rowIn x) := rfl

theorem emb_rowIn (x : S8192x256.Idx) : (oR (rowDev x)).emb (rowIn x) = x := by
  funext a
  apply Fin.ext
  match a with
  | ⟨0, _⟩ => show 512 * ((x 0).val / 512) + 1 * ((x 0).val % 512) = (x 0).val; omega
  | ⟨1, _⟩ => show 0 + 1 * (x 1).val = (x 1).val; omega

theorem rowDev_emb (j : Dev nD) (y : (oR j).shape.Idx) : rowDev ((oR j).emb y) = j := by
  apply Fin.ext
  have h : (y 0).val < 512 := (y 0).isLt
  show (512 * j.val + 1 * (y 0).val) / 512 = j.val
  omega

/-- Writing a row block. -/
theorem write_rows (c j : Dev nD) (f : (cc0_stg1_0 : Ref sig .tc).ty.Contents (Elt F)) {w : FVec F S512x256 .f32} (hw : w = outBlk m ρ c j) (x : S8192x256.Idx) :
    (oM.access (oR j) : View sig .tc _ _ _).write (Elt F) f w Finset.univ x = if rowDev x = j then outF m ρ c x else f x := by
  subst hw
  by_cases h : rowDev x = j
  · subst h
    rw [if_pos rfl]
    have := View.write_emb_of_mem (v := oM.access (oR (rowDev x))) f (outBlk m ρ c (rowDev x)) (Finset.mem_univ (rowIn x))
    have e : (oM.access (oR (rowDev x)) : View sig .tc _ _ _).emb (rowIn x) = x := emb_rowIn x
    rw [e] at this
    exact this
  · rw [if_neg h]
    refine View.write_of_not_mem (v := oM.access (oR j)) f _ Finset.univ fun hx => h ?_
    obtain ⟨y, -, rfl⟩ := Finset.mem_map.mp hx
    exact rowDev_emb j y

/-- The result buffer, the row blocks in `P` at their final values. -/
def outUpTo (c : Dev nD) (P : Dev nD → Prop) : sProp 𝕄 :=
  iprop(∃ f, ⌜∀ x, P (rowDev x) → f x = outF m ρ c x⌝ ∗ buf c cc0_stg1_0 f)

theorem outUpTo_mono (c : Dev nD) {P P' : Dev nD → Prop} (h : ∀ j, P' j → P j) : outUpTo m ρ c P ⊢ outUpTo m ρ c P' := by
  unfold outUpTo
  iintro ⟨%f, %hf, H⟩
  iexists f
  isplitr
  · ipureintro; exact fun x hx => hf x (h _ hx)
  iexact H

theorem outUpTo_all (c : Dev nD) {P : Dev nD → Prop} (h : ∀ j, P j) : outUpTo m ρ c P ⊢ buf c cc0_stg1_0 (outF m ρ c) := by
  unfold outUpTo
  iintro ⟨%f, %hf, H⟩
  rw [show f = outF m ρ c from funext fun x => hf x (h _)]
  iexact H

theorem wp_rows (c j : Dev nD) (P : Dev nD → Prop) (r : Rect S8192x256) (hr : r = oR j) {w : r.shape.Idx → Elt F .f32}
    (hw : ∀ h : r = oR j, HEq w (outBlk m ρ c j))
    {hl : oM.view.LoadsAt r.toLoadRect} {hx} {hm}
    (k : TC F) (Q : PUnit → sProp 𝕄) :
    iprop(outUpTo m ρ c P ∗ (outUpTo m ρ c (fun d => d = j ∨ P d) -∗ WP c k Q))
      ⊢ WP c (.op (.load oM r.toLoadRect hl) fun _ => .op (.store oM r w Finset.univ hx hm) fun _ => k) Q := by
  subst hr
  have hw := eq_of_heq (hw rfl)
  unfold outUpTo
  iintro ⟨⟨%f, %hf, Ho⟩, Hk⟩
  iapply (wp_load 𝒱₀ (c : Thread nD τ) none Set.univ (m := oM) (Finset.subset_univ _)) $$ Ho; iintro Ho
  iapply (wp_store 𝒱₀ (c : Thread nD τ) none Set.univ (m := oM) (r := oR j) (Mk := Finset.univ) (Finset.subset_univ _)) $$ Ho; iintro Ho
  iapply Hk
  iexists ((oM.access (oR j) : View sig .tc _ _ _).write (Elt F) f w Finset.univ)
  isplitr
  · ipureintro
    intro x hx
    refine (write_rows m ρ c j f hw x).trans ?_
    by_cases h : rowDev x = j
    · rw [if_pos h]
    · rw [if_neg h]; exact hf x (hx.resolve_left h)
  · iexact Ho

/-- The last step. -/
theorem wp_last (c : Dev nD) (k : TC F) (Q : PUnit → sProp 𝕄) :
    iprop(records m ρ K ∗ buf c cc0_scratch0 (xbf m ρ c) ∗ fly m ρ c (par 15) (pk c 15) ∗ owe c 0 ∗ (∃ f, buf c cc0_stg1_0 f)
        ∗ ((buf c cc0_scratch0 (xbf m ρ c) ∗ free m ρ c (par 15) ∗ owe c 0 ∗ outUpTo m ρ c (fun d => d = c)) -∗ WP c k Q))
      ⊢ WP c (lastOp c k) Q := by
  unfold lastOp waitOp waitAt
  iintro ⟨#HR, Hb, Hf, HO, ⟨%fo, Ho⟩, Hk⟩
  iapply (wp_wait m ρ K c (par 15) (pk c 15) _ (Above.zero 0))
  isplitr; · iexact HR
  isplitl [Hf]; · iexact Hf
  isplitl [HO]; · iexact HO
  iintro ⟨Hh, HO⟩
  unfold held
  icases Hh with ⟨Hv, ⟨%fw, %hfw, Hw⟩, HW⟩
  iapply (wp_load 𝒱₀ (c : Thread nD τ) none Set.univ (m := bM) (Finset.subset_univ _)) $$ Hb; iintro Hb
  rw [read_b]
  iapply (wp_load_rect 𝒱₀ (c : Thread nD τ) none Set.univ (m := wbM) (r := wR (par 15)) (S := (wSlot (par 15)).view.set) (by rw [View.set_reshape])) $$ Hw; iintro Hw
  have hc : pk c 15 = c := Fin.ext (by have := c.isLt; show (c.val + 1 + 15) % 16 = c.val; have : c.val < 16 := c.isLt; omega)
  iapply (wp_rows m ρ c c (fun _ => False) (ooR c) (ooR_eq c) (w := k0_pay20 (xbf m ρ c) ((wbM.access (wR (par 15)) : View sig .tc _ _ _).read (Elt F) fw))
    (fun _ => heq_of_eq (by
      rw [pay20_eq]; unfold outBlk; rw [if_pos rfl, ← show wblk m ρ c (pk c 15) = wblk m ρ c c by rw [hc], ← hfw]; rfl)))
  isplitl [Ho]
  · unfold outUpTo
    iexists fo
    isplitr
    · ipureintro; exact fun _ h => h.elim
    iexact Ho
  iintro Ho
  iapply Hk
  isplitl [Hb]; · iexact Hb
  isplitl [Hv Hw HW]
  · unfold free
    isplitl [Hv]; · iexact Hv
    isplitl [Hw]; · iexists fw; iexact Hw
    iexact HW
  isplitl [HO]; · iexact HO
  iapply (outUpTo_mono m ρ c (fun j h => Or.inl h)) $$ Ho

theorem read_gR (c : Dev nD) (i : Fin 15) (f : (cc0_scratch3 : Ref sig .tc).ty.Contents (Elt F)) :
    ((rbM.access (gR c i) : View sig .tc _ _ _).read (Elt F) f : FVec F S1x512x256 .bf16)
      = (rbM.access (rR (src c i.val)) : View sig .tc _ _ _).read (Elt F) f := by
  have h : ∀ r, r = rR (src c i.val) → HEq ((rbM.access r : View sig .tc _ _ _).read (Elt F) f)
      ((rbM.access (rR (src c i.val)) : View sig .tc _ _ _).read (Elt F) f) := by rintro r rfl; rfl
  exact eq_of_heq (h _ (gR_eq c i))

/-- A receive. -/
theorem wp_recv (c : Dev nD) (i : Fin 15) (P : Dev nD → Prop) (k : TC F) (Q : PUnit → sProp 𝕄) :
    iprop(records m ρ K ∗ owe c 0 ∗ cred (tallyAt (recvCell c (src c i.val)) () N) ∗ atPos ER (recvCell c (src c i.val)) 0 ∅ 0
        ∗ outUpTo m ρ c P
        ∗ ((owe c 0 ∗ atPos ER (recvCell c (src c i.val)) (0 + 1) ∅ 0 ∗ anySlot c (rSlot (src c i.val))
            ∗ outUpTo m ρ c (fun d => d = src c i.val ∨ P d)) -∗ WP c k Q))
      ⊢ WP c (recvOp c i.val k) Q := by
  unfold recvOp
  rw [s15_val]
  unfold recvAt owe
  iintro ⟨#HR, ⟨%W, HO⟩, Hc, Ha, Ho, Hk⟩
  have hs : recvS (src c i.val) = (gSem c i).sem := by rw [gSem_eq]
  iapply (Rounds.wp_wait_rest_token 𝒱₀ ER (rd m ρ) (c : Thread nD τ) none (κ := K (c, some (.inr (src c i.val))))
      (sm := .dma (gSem c i).sem)
      (wpE_waitDma2_eq 𝒱₀ (c : Thread nD τ) none Set.univ) (Set.mem_univ _) () (O := 0) (W := W) (R := 0) (m := 0) (T := ∅)
      (by rw [← hs, expect_recv m ρ c _ (src_ne c i), Nat.zero_add])) $$ [Hc HO Ha]
  · rw [← hs]
    isplitr; · iapply (rec_inv m ρ K (c, some (.inr (src c i.val)))); iexact HR
    isplitl [Hc]; · iexact Hc
    isplitl [HO]; · iexact HO
    isplitr; · rw [MayWait_zero]; iempintro
    iexact Ha
  rw [← hs, rest_recv m ρ c _ (src_ne c i)]
  unfold slotAt
  iintro ⟨HO, Ha, -, ⟨%f, %hf, Hs⟩⟩
  iapply (wp_load_rect 𝒱₀ (c : Thread nD τ) none Set.univ (m := rbM) (r := gR c i) (S := (rSlot (src c i.val)).view.set)
    (by rw [View.set_reshape, gR_eq])) $$ Hs; iintro Hs
  iapply (wp_rows m ρ c (src c i.val) P (goR c i) (goR_eq c i)
    (fun _ => heq_of_eq (by
      rw [pay24_eq]; unfold outBlk; rw [if_neg (src_ne c i), ← hf]
      refine congrArg (fun v => siluF (extf .f32 v bitsLt_bf16_f32)) ?_
      exact (congrArg (fun v => shapeCast S512x256 v shapeCasts_S1x512x256_S512x256) (read_gR c i f)).trans rfl)))
  isplitl [Ho]; · iexact Ho
  iintro Ho
  iapply Hk
  isplitl [HO]; · iexists _; iexact HO
  isplitl [Ha]; · iexact Ha
  isplitl [Hs]; · unfold anySlot; iexists f; iexact Hs
  iexact Ho

/-- A send awaited. -/
theorem wp_sent (c : Dev nD) (i : Fin 15) (k : TC F) (Q : PUnit → sProp 𝕄) :
    iprop(records m ρ K ∗ owe c 0 ∗ cred (tallyAt (sendCell c i) () N) ∗ atPos ER (sendCell c i) 0 ∅ 0
        ∗ ((owe c 0 ∗ atPos ER (sendCell c i) (0 + 1) ∅ 0 ∗ anySlot c (sSlot i)) -∗ WP c k Q))
      ⊢ WP c (sentOp c i.val k) Q := by
  unfold sentOp
  rw [s15_val]
  unfold sentAt owe
  iintro ⟨#HR, ⟨%W, HO⟩, Hc, Ha, Hk⟩
  iapply (Rounds.wp_wait_rest_token 𝒱₀ ER (rd m ρ) (c : Thread nD τ) none (κ := K (c, some (.inl i)))
      (wpE_waitDma2_eq 𝒱₀ (c : Thread nD τ) none Set.univ) (Set.mem_univ _) () (O := 0) (W := W) (R := 0) (m := 0) (T := ∅)
      (by rw [expect_send, Nat.zero_add])) $$ [Hc HO Ha]
  · isplitr; · iapply (rec_inv m ρ K (c, some (.inl i))); iexact HR
    isplitl [Hc]; · iexact Hc
    isplitl [HO]; · iexact HO
    isplitr; · rw [MayWait_zero]; iempintro
    iexact Ha
  rw [rest_send m ρ c i]
  iintro ⟨HO, Ha, -, Hs⟩
  iapply Hk
  isplitl [HO]; · iexists _; iexact HO
  isplitl [Ha]; · iexact Ha
  iexact Hs

end Cert.DistSilu
-- ==== Proof.Loops.lean ====
/-
# The loops

The repetition rule, the product's step, and the four loops of the body, each over what it uses and leaves.
-/
module

public import proofs.«01_k».proof.Proof.Rows
public import Idealize.SL.BI.BigOpNat

@[expose] public section

noncomputable section

namespace Cert.DistSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

omit [FloatOps F] in
/-- A family over the fifteen steps, by step number. -/
theorem steps_eq (A : Fin 15 → sProp 𝕄) : bigSep Finset.univ A = bigSep (Finset.Ico 0 15) fun i => A (s15 i) := by
  rw [show Finset.Ico 0 15 = (Finset.univ : Finset (Fin 15)).map Fin.valEmbedding from by decide, bigSep_map]
  exact bigSep_congr fun i _ => congrArg A (s15_val i).symm

omit [FloatOps F] in
/-- The fifteen devices after `c`, in the order of the signals and the copies. -/
theorem others_pk (c : Dev nD) (Φ : Dev nD → sProp 𝕄) : bigSep (Finset.univ.erase c) Φ = bigSep Finset.univ fun i : Fin 15 => Φ (pk c i.val) := by
  rw [show Finset.univ.erase c = (Finset.univ : Finset (Fin 15)).map ⟨fun i => pk c i.val, fun a b h => pk_inj c a b h⟩ from ?_, bigSep_map]
  · rfl
  · ext d
    rw [Finset.mem_erase, Finset.mem_map]
    constructor
    · rintro ⟨h, -⟩
      obtain ⟨i, rfl⟩ := pk_surj c d h
      exact ⟨i, Finset.mem_univ _, rfl⟩
    · rintro ⟨i, -, rfl⟩
      exact ⟨pk_ne c i, Finset.mem_univ _⟩

omit [FloatOps F] in
/-- The fifteen devices before `c`, in the order of the receives. -/
theorem others_src (c : Dev nD) (Φ : Dev nD → sProp 𝕄) : bigSep (Finset.univ.erase c) Φ = bigSep Finset.univ fun i : Fin 15 => Φ (src c i.val) := by
  rw [show Finset.univ.erase c = (Finset.univ : Finset (Fin 15)).map ⟨fun i => src c i.val, fun a b h => src_inj c a b h⟩ from ?_, bigSep_map]
  · rfl
  · ext d
    rw [Finset.mem_erase, Finset.mem_map]
    constructor
    · rintro ⟨h, -⟩
      obtain ⟨i, rfl⟩ := src_surj c d h
      exact ⟨i, Finset.mem_univ _, rfl⟩
    · rintro ⟨i, -, rfl⟩
      exact ⟨src_ne c i, Finset.mem_univ _⟩

/-! ## Repetition -/

/-- Fifteen rounds: `J` is carried, round `i` uses `A i` and leaves `B i`. -/
theorem wp_rep {c : Dev nD} {body : ℕ → TC F → TC F} {R : sProp 𝕄} [BI.Persistent R] {J : ℕ → sProp 𝕄} {A B : Fin 15 → sProp 𝕄}
    (h : ∀ (i : Fin 15) (k : TC F) (Q : PUnit → sProp 𝕄),
      iprop(R ∗ J i.val ∗ A i ∗ ((J (i.val + 1) ∗ B i) -∗ WP c k Q)) ⊢ WP c (body i.val k) Q)
    (k : TC F) (Q : PUnit → sProp 𝕄) :
    iprop(R ∗ J 0 ∗ bigSep Finset.univ A ∗ ((J 15 ∗ bigSep Finset.univ B) -∗ WP c k Q)) ⊢ WP c (rep body 15 0 k) Q := by
  have key : ∀ (n i : ℕ), i + n = 15 → ∀ Q : PUnit → sProp 𝕄,
      iprop(R ∗ J i ∗ bigSep (Finset.Ico i 15) (fun j => A (s15 j)) ∗ ((J 15 ∗ bigSep (Finset.Ico i 15) fun j => B (s15 j)) -∗ WP c k Q))
        ⊢ WP c (rep body n i k) Q := by
    intro n
    induction n with
    | zero =>
      intro i hi Q
      obtain rfl : i = 15 := by omega
      rw [Finset.Ico_self, bigSep_empty, bigSep_empty]
      iintro ⟨-, HJ, -, Hk⟩
      unfold rep
      iapply Hk
      isplitl [HJ]; · iexact HJ
      iempintro
    | succ n ih =>
      intro i hi Q
      have hlt : i < 15 := by omega
      rw [bigSep_Ico_succ_bot hlt, bigSep_Ico_succ_bot hlt]
      have hs : (s15 i : Fin 15).val = i := Nat.mod_eq_of_lt hlt
      have hb := h (s15 i) (rep body n (i + 1) k) Q
      rw [hs] at hb
      iintro ⟨#HR, HJ, ⟨HA, HAs⟩, Hk⟩
      iapply hb
      isplitr; · iexact HR
      isplitl [HJ]; · iexact HJ
      isplitl [HA]; · iexact HA
      iintro ⟨HJ, HB⟩
      iapply (ih (i + 1) (by omega) Q)
      isplitr; · iexact HR
      isplitl [HJ]; · iexact HJ
      isplitl [HAs]; · iexact HAs
      iintro ⟨HJ, HBs⟩
      iapply Hk
      isplitl [HJ]; · iexact HJ
      isplitl [HB]; · iexact HB
      iexact HBs
  rw [steps_eq A, steps_eq B]
  exact key 15 0 rfl Q

variable (m : (ℓ : Loc nD τ sig) → Buf (Elt F) ℓ) (ρ : Dev nD → PrngReg) (K : Dev nD × CI → ℕ)

/-! ## The signals -/

def sigNeed (c : Dev nD) (i : Fin 15) : sProp 𝕄 := iprop(dutyTok ER (barCell (pk c i.val)) 0 c ∗ anySlot c (rSlot (pk c i.val)))

theorem wp_sigStep (c : Dev nD) (i : Fin 15) (k : TC F) (Q : PUnit → sProp 𝕄) :
    iprop(records m ρ K ∗ owe c (OR c 0 + OB c i.val) ∗ sigNeed c i ∗ ((owe c (OR c 0 + OB c (i.val + 1)) ∗ emp) -∗ WP c k Q))
      ⊢ WP c (sigOp c i.val k) Q := by
  unfold sigNeed
  iintro ⟨#HR, HO, ⟨Ht, Hs⟩, Hk⟩
  iapply (wp_sig m ρ K c i k Q)
  isplitr; · iexact HR
  isplitl [HO]; · iexact HO
  isplitl [Ht]; · iexact Ht
  isplitl [Hs]; · iexact Hs
  iintro HO
  iapply Hk
  isplitl [HO]; · iexact HO
  iempintro

theorem wp_signals (c : Dev nD) (k : TC F) (Q : PUnit → sProp 𝕄) :
    iprop(records m ρ K ∗ owe c (O₀ c) ∗ bigSep Finset.univ (sigNeed (F := F) c) ∗ (owe c (OR c 0) -∗ WP c k Q))
      ⊢ WP c (rep (sigOp c) 15 0 k) Q := by
  iintro ⟨#HR, HO, HA, Hk⟩
  iapply (wp_rep (R := records m ρ K) (J := fun i => owe c (OR c 0 + OB c i)) (A := sigNeed c) (B := fun _ => iprop(emp)) (wp_sigStep m ρ K c) k Q)
  isplitr; · iexact HR
  isplitl [HO]; · unfold O₀; iexact HO
  isplitl [HA]; · iexact HA
  iintro ⟨HO, -⟩
  iapply Hk
  rw [OB_end, add_zero]
  iexact HO

/-! ## The products -/

def stepNeed (c : Dev nD) (i : Fin 15) : sProp 𝕄 :=
  iprop(anySlot c (sSlot i) ∗ barPay c (pk c i.val) ∗ dutyTok ER (sendCell c i) 0 0 ∗ dutyTok ER (recvCell (pk c i.val) c) 0 0)
def stepLeft (c : Dev nD) (i : Fin 15) : sProp 𝕄 := cred (tallyAt (sendCell c i) () N)
/-- Before step `i`: its column block is on its way, the other slot is free. -/
def stepInv (c : Dev nD) (i : ℕ) : sProp 𝕄 :=
  iprop(buf c cc0_scratch0 (xbf m ρ c) ∗ fly m ρ c (par i) (pk c i) ∗ free m ρ c (par (i + 1)) ∗ owe c (OR c i))

theorem par_two (i : ℕ) : par (i + 1 + 1) = par i := Fin.ext (by show (i + 1 + 1) % 2 = i % 2; omega)

theorem col_eq (c : Dev nD) {i : ℕ} (h : i < 16) : wCol c (s16 i) = wAt (pk c i) := by
  rw [wCol_eq]; show wAt (pk c (i % 16)) = _; rw [Nat.mod_eq_of_lt h]

theorem wp_step (c : Dev nD) (i : Fin 15) (k : TC F) (Q : PUnit → sProp 𝕄) :
    iprop(records m ρ K ∗ stepInv m ρ c i.val ∗ stepNeed c i ∗ ((stepInv m ρ c (i.val + 1) ∗ stepLeft c i) -∗ WP c k Q))
      ⊢ WP c (stepOp c i.val k) Q := by
  unfold stepOp enqOp enqAt waitOp waitAt stepInv stepNeed stepLeft
  iintro ⟨#HR, ⟨Hb, Hf, Hr, HO⟩, ⟨Hs, Hbp, HtS, HtR⟩, Hk⟩
  iapply (wp_enq m ρ c (par (i.val + 1)) (pk c (i.val + 1)) _ (col_eq c (by have := i.isLt; omega)))
  isplitl [Hr]; · iexact Hr
  iintro Hf'
  iapply (wp_wait m ρ K c (par i.val) (pk c i.val) _ ((Above.OR c i.val).mono (Nat.zero_le 1)))
  isplitr; · iexact HR
  isplitl [Hf]; · iexact Hf
  isplitl [HO]; · iexact HO
  iintro ⟨Hh, HO⟩
  iapply (wp_prod m ρ K c i k Q)
  isplitr; · iexact HR
  isplitl [Hb]; · iexact Hb
  isplitl [Hh]; · iexact Hh
  isplitl [HO]; · iexact HO
  isplitl [Hs]; · iexact Hs
  isplitl [Hbp]; · iexact Hbp
  isplitl [HtS]; · iexact HtS
  isplitl [HtR]; · iexact HtR
  iintro ⟨Hb, Hr, HO, Hc⟩
  iapply Hk
  rw [par_two]
  isplitr [Hc]
  · isplitl [Hb]; · iexact Hb
    isplitl [Hf']; · iexact Hf'
    isplitl [Hr]; · iexact Hr
    iexact HO
  iexact Hc

theorem wp_steps (c : Dev nD) (k : TC F) (Q : PUnit → sProp 𝕄) :
    iprop(records m ρ K ∗ stepInv m ρ c 0 ∗ bigSep Finset.univ (stepNeed (F := F) c)
        ∗ ((stepInv m ρ c 15 ∗ bigSep Finset.univ (stepLeft (F := F) c)) -∗ WP c k Q))
      ⊢ WP c (rep (stepOp c) 15 0 k) Q :=
  wp_rep (R := records m ρ K) (J := stepInv m ρ c) (wp_step m ρ K c) k Q

/-! ## The receives -/

def recvNeed (c : Dev nD) (i : Fin 15) : sProp 𝕄 :=
  iprop(cred (tallyAt (recvCell c (src c i.val)) () N) ∗ atPos ER (recvCell c (src c i.val)) 0 ∅ 0)
def recvLeft (c : Dev nD) (i : Fin 15) : sProp 𝕄 :=
  iprop(atPos ER (recvCell c (src c i.val)) (0 + 1) ∅ 0 ∗ anySlot c (rSlot (src c i.val)))
/-- The row blocks in place after `i` receives. -/
def rowsDone (c : Dev nD) (i : ℕ) (d : Dev nD) : Prop := d = c ∨ ∃ j, j < i ∧ d = src c j

theorem wp_recvStep (c : Dev nD) (i : Fin 15) (k : TC F) (Q : PUnit → sProp 𝕄) :
    iprop(records m ρ K ∗ (owe c 0 ∗ outUpTo m ρ c (rowsDone c i.val)) ∗ recvNeed c i
        ∗ (((owe c 0 ∗ outUpTo m ρ c (rowsDone c (i.val + 1))) ∗ recvLeft c i) -∗ WP c k Q))
      ⊢ WP c (recvOp c i.val k) Q := by
  unfold recvNeed recvLeft
  iintro ⟨#HR, ⟨HO, Ho⟩, ⟨Hc, Ha⟩, Hk⟩
  iapply (wp_recv m ρ K c i (rowsDone c i.val) k Q)
  isplitr; · iexact HR
  isplitl [HO]; · iexact HO
  isplitl [Hc]; · iexact Hc
  isplitl [Ha]; · iexact Ha
  isplitl [Ho]; · iexact Ho
  iintro ⟨HO, Ha, Hs, Ho⟩
  iapply Hk
  isplitl [HO Ho]
  · isplitl [HO]; · iexact HO
    iapply (outUpTo_mono m ρ c (P' := rowsDone c (i.val + 1)) (fun d h => by
      rcases h with h | ⟨j, hj, h⟩
      · exact Or.inr (Or.inl h)
      · rcases Nat.lt_succ_iff_lt_or_eq.mp hj with hj | rfl
        · exact Or.inr (Or.inr ⟨j, hj, h⟩)
        · exact Or.inl h)) $$ Ho
  isplitl [Ha]; · iexact Ha
  iexact Hs

theorem wp_recvs (c : Dev nD) (k : TC F) (Q : PUnit → sProp 𝕄) :
    iprop(records m ρ K ∗ (owe c 0 ∗ outUpTo m ρ c (fun d => d = c)) ∗ bigSep Finset.univ (recvNeed (F := F) c)
        ∗ ((owe c 0 ∗ buf c cc0_stg1_0 (outF m ρ c) ∗ bigSep Finset.univ (recvLeft (F := F) c)) -∗ WP c k Q))
      ⊢ WP c (rep (recvOp c) 15 0 k) Q := by
  iintro ⟨#HR, ⟨HO, Ho⟩, HA, Hk⟩
  iapply (wp_rep (R := records m ρ K) (J := fun i => iprop(owe c 0 ∗ outUpTo m ρ c (rowsDone c i))) (A := recvNeed c) (B := recvLeft c) (wp_recvStep m ρ K c) k Q)
  isplitr; · iexact HR
  isplitl [HO Ho]
  · isplitl [HO]; · iexact HO
    iapply (outUpTo_mono m ρ c (P' := rowsDone c 0) (fun j h => h.elim id fun ⟨_, h, _⟩ => absurd h (Nat.not_lt_zero _))) $$ Ho
  isplitl [HA]; · iexact HA
  iintro ⟨⟨HO, Ho⟩, HB⟩
  iapply Hk
  isplitl [HO]; · iexact HO
  isplitl [Ho]
  · iapply (outUpTo_all m ρ c (P := rowsDone c 15) (fun d => by
      by_cases h : d = c
      · exact Or.inl h
      · obtain ⟨i, rfl⟩ := src_surj c d h
        exact Or.inr ⟨i.val, i.isLt, rfl⟩)) $$ Ho
  iexact HB

/-! ## The sends awaited -/

def sentNeed (c : Dev nD) (i : Fin 15) : sProp 𝕄 := iprop(stepLeft c i ∗ atPos ER (sendCell c i) 0 ∅ 0)
def sentLeft (c : Dev nD) (i : Fin 15) : sProp 𝕄 := iprop(atPos ER (sendCell c i) (0 + 1) ∅ 0 ∗ anySlot c (sSlot i))

theorem wp_sents (c : Dev nD) (k : TC F) (Q : PUnit → sProp 𝕄) :
    iprop(records m ρ K ∗ owe c 0 ∗ bigSep Finset.univ (sentNeed (F := F) c)
        ∗ ((owe c 0 ∗ bigSep Finset.univ (sentLeft (F := F) c)) -∗ WP c k Q))
      ⊢ WP c (rep (sentOp c) 15 0 k) Q := by
  refine wp_rep (R := records m ρ K) (J := fun _ => owe c 0) (A := sentNeed c) (B := sentLeft c) ?_ k Q
  intro i k Q
  unfold sentNeed sentLeft stepLeft
  iintro ⟨#HR, HO, ⟨Hc, Ha⟩, Hk⟩
  iapply (wp_sent m ρ K c i k Q)
  isplitr; · iexact HR
  isplitl [HO]; · iexact HO
  isplitl [Hc]; · iexact Hc
  isplitl [Ha]; · iexact Ha
  iintro ⟨HO, Ha, Hs⟩
  iapply Hk
  isplitl [HO]; · iexact HO
  isplitl [Ha]; · iexact Ha
  iexact Hs

end Cert.DistSilu
-- ==== Proof.Body.lean ====
/-
# The body on one device

From what the launch deals a device to its result, every slot and every semaphore back.
-/
module

public import proofs.«01_k».proof.Proof.Loops

@[expose] public section

noncomputable section

namespace Cert.DistSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## What a device starts from -/

/-- Its positions at its own semaphores, at round `r`. -/
def positions (c : Dev nD) : sProp 𝕄 :=
  iprop(atPos ER (barCell c) 0 ∅ 0 ∗ (bigSep Finset.univ fun i : Fin 15 => atPos ER (sendCell c i) 0 ∅ 0)
    ∗ bigSep Finset.univ fun j : Dev nD => atPos ER (recvCell c j) 0 ∅ 0)
/-- The tokens of the duties it pays. -/
def payToks (c : Dev nD) : sProp 𝕄 :=
  iprop((bigSep (Finset.univ.erase c) fun d : Dev nD => dutyTok ER (barCell d) 0 c) ∗ (bigSep Finset.univ fun i : Fin 15 => dutyTok ER (sendCell c i) 0 0)
    ∗ bigSep (Finset.univ.erase c) fun d : Dev nD => dutyTok ER (recvCell d c) 0 0)
/-- What it is to be paid. -/
def credits (c : Dev nD) : sProp 𝕄 :=
  iprop(cred (tallyAt (barCell c) () 15) ∗ bigSep (Finset.univ.erase c) fun d : Dev nD => cred (tallyAt (recvCell c d) () N))

def sendSlots (c : Dev nD) : sProp 𝕄 := bigSep Finset.univ fun i : Fin 15 => anySlot c (sSlot i)
def recvSlots (c : Dev nD) : sProp 𝕄 := bigSep Finset.univ fun j : Dev nD => anySlot c (rSlot j)
def frees (c : Dev nD) : sProp 𝕄 := iprop(free m ρ c 0 ∗ free m ρ c 1)
/-- Its semaphores of the protocol at zero. -/
def sems (c : Dev nD) : sProp 𝕄 :=
  iprop(semVal (barCell c) 0 ∗ (bigSep Finset.univ fun i : Fin 15 => semVal (sendCell c i) 0) ∗ bigSep Finset.univ fun j : Dev nD => semVal (recvCell c j) 0)

/-! ## Closing the cells -/

theorem close_bar (c : Dev nD) : iprop(records m ρ K ∗ atPos ER (barCell c) (0 + 1) ∅ 0) ⊢ |={Set.univ}=> semVal (barCell c) 0 := by
  iintro ⟨#HR, Ha⟩
  iapply (Rounds.cell_close ER (rd m ρ) (Set.mem_univ (K (c, none))) (fun h => h) (R := 0 + 1) (duties_later m ρ (barCell c)))
  isplitr; · iapply (rec_inv m ρ K (c, none)); iexact HR
  iexact Ha
theorem close_send (c : Dev nD) (i : Fin 15) : iprop(records m ρ K ∗ atPos ER (sendCell c i) (0 + 1) ∅ 0) ⊢ |={Set.univ}=> semVal (sendCell c i) 0 := by
  iintro ⟨#HR, Ha⟩
  iapply (Rounds.cell_close ER (rd m ρ) (Set.mem_univ (K (c, some (.inl i)))) (fun h => h) (R := 0 + 1) (duties_later m ρ (sendCell c i)))
  isplitr; · iapply (rec_inv m ρ K (c, some (.inl i))); iexact HR
  iexact Ha
theorem close_recv (c j : Dev nD) : iprop(records m ρ K ∗ atPos ER (recvCell c j) (0 + 1) ∅ 0) ⊢ |={Set.univ}=> semVal (recvCell c j) 0 := by
  iintro ⟨#HR, Ha⟩
  iapply (Rounds.cell_close ER (rd m ρ) (Set.mem_univ (K (c, some (.inr j)))) (fun h => h) (R := 0 + 1) (duties_later m ρ (recvCell c j)))
  isplitr; · iapply (rec_inv m ρ K (c, some (.inr j))); iexact HR
  iexact Ha
theorem close_self (c : Dev nD) : iprop(records m ρ K ∗ atPos ER (recvCell c c) 0 ∅ 0) ⊢ |={Set.univ}=> semVal (recvCell c c) 0 := by
  iintro ⟨#HR, Ha⟩
  iapply (Rounds.cell_close ER (rd m ρ) (Set.mem_univ (K (c, some (.inr c)))) (fun h => h) (R := 0) (fun r _ => duties_self m ρ c r))
  isplitr; · iapply (rec_inv m ρ K (c, some (.inr c))); iexact HR
  iexact Ha

omit [FloatOps F] in
/-- A step that every member of a family takes beside a record that stays. -/
theorem each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_sends (c : Dev nD) :
    iprop(records m ρ K ∗ bigSep Finset.univ fun i : Fin 15 => atPos ER (sendCell c i) (0 + 1) ∅ 0)
      ⊢ |={Set.univ}=> bigSep Finset.univ fun i : Fin 15 => semVal (sendCell c i) 0 :=
  (each fun i _ => close_send m ρ K c i).trans (bigSep_fupd _ _)
theorem close_recvs (c : Dev nD) :
    iprop(records m ρ K ∗ atPos ER (recvCell c c) 0 ∅ 0 ∗ bigSep (Finset.univ.erase c) fun j : Dev nD => atPos ER (recvCell c j) (0 + 1) ∅ 0)
      ⊢ |={Set.univ}=> bigSep Finset.univ fun j : Dev nD => semVal (recvCell c j) 0 := by
  iintro ⟨#HR, Hs, Ha⟩
  imod (close_self m ρ K c) $$ [Hs] with Hs
  · isplitr; · iexact HR
    iexact Hs
  imod ((each fun j _ => close_recv m ρ K c j).trans (bigSep_fupd (Finset.univ.erase c) _)) $$ [Ha] with Ha
  · isplitr; · iexact HR
    iexact Ha
  imodintro
  rw [bigSep_univ_at _ c]
  isplitl [Hs]; · iexact Hs
  iexact Ha

/-! ## The run of the body -/

def bodyIn (c : Dev nD) : sProp 𝕄 :=
  iprop(records m ρ K ∗ positions c ∗ payToks c ∗ credits c ∗ owe c (O₀ c)
    ∗ buf c cc0_stg0_0 (xst m ρ c) ∗ (∃ f, buf c cc0_scratch0 f) ∗ (∃ f, buf c cc0_stg1_0 f) ∗ frees m ρ c ∗ sendSlots c ∗ recvSlots c)
def bodyOut (c : Dev nD) : sProp 𝕄 :=
  iprop(sems c ∗ owe c 0 ∗ buf c cc0_stg0_0 (xst m ρ c) ∗ (∃ f, buf c cc0_scratch0 f) ∗ buf c cc0_stg1_0 (outF m ρ c)
    ∗ frees m ρ c ∗ sendSlots c ∗ recvSlots c)

omit [FloatOps F] in
theorem recvLeft_split (c : Dev nD) : (bigSep Finset.univ (recvLeft (F := F) c) : sProp 𝕄)
    ⊢ iprop((bigSep (Finset.univ.erase c) fun d : Dev nD => atPos ER (recvCell c d) (0 + 1) ∅ 0) ∗ bigSep (Finset.univ.erase c) fun d : Dev nD => anySlot c (rSlot d)) := by
  rw [others_src c fun d => atPos ER (recvCell c d) (0 + 1) ∅ 0, others_src c fun d => anySlot c (rSlot d), ← bigSep_sep']
  exact Entails.of_eq rfl
omit [FloatOps F] in
theorem sentLeft_split (c : Dev nD) : (bigSep Finset.univ (sentLeft (F := F) c) : sProp 𝕄)
    ⊢ iprop((bigSep Finset.univ fun i : Fin 15 => atPos ER (sendCell c i) (0 + 1) ∅ 0) ∗ bigSep Finset.univ fun i : Fin 15 => anySlot c (sSlot i)) := by
  rw [← bigSep_sep']
  exact Entails.of_eq rfl

theorem wp_done (c : Dev nD) (Q : PUnit → sProp 𝕄) : iprop(|={Set.univ}=> Q ⟨⟩) ⊢ WP c (.ret ⟨⟩ : TC F) Q := by
  show _ ⊢ wp _ _ _ _ _
  rw [wp_ret]

theorem wp_body (c : Dev nD) (Q : PUnit → sProp 𝕄) :
    iprop(bodyIn m ρ K c ∗ (bodyOut m ρ c -∗ Q ⟨⟩)) ⊢ WP c (bodyOn c) Q := by
  unfold bodyIn bodyOut positions payToks credits sems frees bodyOn sendSlots recvSlots
  rw [others_pk c fun d => dutyTok ER (barCell d) 0 c, others_pk c fun d => dutyTok ER (recvCell d c) 0 0,
    others_src c fun d => cred (tallyAt (recvCell c d) () N), bigSep_univ_at _ c, others_src c fun j => atPos ER (recvCell c j) 0 ∅ 0,
    bigSep_univ_at (fun j : Dev nD => anySlot c (rSlot j)) c]
  iintro ⟨⟨#HR, ⟨HaB, HaS, HaC, HaV⟩, ⟨HtB, HtS, HtR⟩, ⟨HcB, HcV⟩, HO, Hx, Hb, Ho, ⟨Hf0, Hf1⟩, Hss, HrC, Hrs⟩, Hk⟩
  -- the barrier
  iapply (wp_signals m ρ K c)
  isplitr; · iexact HR
  isplitl [HO]; · iexact HO
  isplitl [HtB Hrs]
  · unfold sigNeed
    rw [bigSep_sep', ← others_pk c fun d => anySlot c (rSlot d)]
    isplitl [HtB]; · iexact HtB
    iexact Hrs
  iintro HO
  iapply (wp_barWait m ρ K c)
  isplitr; · iexact HR
  isplitl [HO]; · iexact HO
  isplitl [HcB]; · iexact HcB
  isplitl [HaB]; · iexact HaB
  iintro ⟨HO, HaB, Hp⟩
  -- the rounding, the first fetch
  iapply (wp_cast m ρ c)
  isplitl [Hx]; · iexact Hx
  isplitl [Hb]; · iexact Hb
  iintro ⟨Hx, Hb⟩
  unfold enqOp enqAt
  iapply (wp_enq m ρ c (par 0) (pk c 0) _ (col_eq c (by decide)))
  isplitl [Hf0]; · iexact Hf0
  iintro Hfly
  -- the products
  iapply (wp_steps m ρ K c)
  isplitr; · iexact HR
  isplitl [Hb Hfly Hf1 HO]
  · unfold stepInv
    isplitl [Hb]; · iexact Hb
    isplitl [Hfly]; · iexact Hfly
    isplitl [Hf1]; · iexact Hf1
    iexact HO
  isplitl [Hss Hp HtS HtR]
  · unfold stepNeed
    rw [bigSep_sep', bigSep_sep', bigSep_sep', ← others_pk c fun d => barPay c d]
    isplitl [Hss]; · iexact Hss
    isplitl [Hp]; · iexact Hp
    isplitl [HtS]; · iexact HtS
    iexact HtR
  iintro ⟨HJ, HcS⟩
  unfold stepInv
  icases HJ with ⟨Hb, Hfly, Hf0, HO⟩
  rw [OR_end]
  -- its own block
  iapply (wp_last m ρ K c)
  isplitr; · iexact HR
  isplitl [Hb]; · iexact Hb
  isplitl [Hfly]; · iexact Hfly
  isplitl [HO]; · iexact HO
  isplitl [Ho]; · iexact Ho
  iintro ⟨Hb, Hf1, HO, Ho⟩
  -- the receives
  iapply (wp_recvs m ρ K c)
  isplitr; · iexact HR
  isplitl [HO Ho]
  · isplitl [HO]; · iexact HO
    iexact Ho
  isplitl [HcV HaV]
  · unfold recvNeed
    rw [bigSep_sep']
    isplitl [HcV]; · iexact HcV
    iexact HaV
  iintro ⟨HO, Ho, HL⟩
  ihave HL := (recvLeft_split c) $$ HL
  icases HL with ⟨HaV, Hrs⟩
  -- the sends awaited
  iapply (wp_sents m ρ K c)
  isplitr; · iexact HR
  isplitl [HO]; · iexact HO
  isplitl [HcS HaS]
  · unfold sentNeed
    rw [bigSep_sep']
    isplitl [HcS]; · iexact HcS
    iexact HaS
  iintro ⟨HO, HL⟩
  ihave HL := (sentLeft_split c) $$ HL
  icases HL with ⟨HaS, Hss⟩
  -- the semaphores back
  iapply (wp_done c Q)
  imod (close_bar m ρ K c) $$ [HaB] with HzB
  · isplitr; · iexact HR
    iexact HaB
  imod (close_sends m ρ K c) $$ [HaS] with HzS
  · isplitr; · iexact HR
    iexact HaS
  imod (close_recvs m ρ K c) $$ [HaC HaV] with HzV
  · isplitr; · iexact HR
    isplitl [HaC]; · iexact HaC
    iexact HaV
  imodintro
  iapply Hk
  isplitl [HzB HzS HzV]
  · isplitl [HzB]; · iexact HzB
    isplitl [HzS]; · iexact HzS
    iexact HzV
  isplitl [HO]; · iexact HO
  isplitl [Hx]; · iexact Hx
  isplitl [Hb]; · iexists _; iexact Hb
  isplitl [Ho]; · iexact Ho
  isplitl [Hf0 Hf1]
  · isplitl [Hf0]; · iexact Hf0
    iexact Hf1
  isplitl [Hss]; · iexact Hss
  isplitl [HrC]; · iexact HrC
  iexact Hrs

end Cert.DistSilu
-- ==== Proof.Region.lean ====
/-
# The region

The scratch buffers cut into slots and joined again, the proof data of the kernel's one point, and its body's obligation.
-/
module

public import proofs.«01_k».proof.Proof.Body
public import Idealize.ShloMosaic.Lib.Ring

@[expose] public section

noncomputable section

namespace Cert.DistSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Slots -/

theorem only0 {n : ℕ} (x : Fin n) (a : Fin 3) (h : a ≠ 0) : (![x.val, 0, 0] : Fin 3 → Nat) a = 0 := by
  revert h; fin_cases a
  · intro h; exact absurd rfl h
  · intro _; rfl
  · intro _; rfl

omit [FloatOps F] in
theorem anyI (c : Dev nD) (b : Ref sig .tc) (I : Finset b.ty.Idx) (f : Buf (Elt F) ((c : Thread nD τ).loc b)) :
    (((c : Thread nD τ).loc b) ↦[I]{fullShare} f : sProp 𝕄) ⊢ iprop(∃ f : Buf (Elt F) ((c : Thread nD τ).loc b), ((c : Thread nD τ).loc b) ↦[I]{fullShare} f) := by
  iintro H; iexists f; iexact H

/-- A slot of the second factor's buffer at any contents. -/
def wAny (c : Dev nD) (p : Fin 2) : sProp 𝕄 := iprop(∃ f, (wSlot p).view.loc (c : Thread nD τ) ↦[(wSlot p).view.set]{fullShare} f)

theorem wSlot_set (p : Fin 2) : ((wSlot p).view.set : Finset S2x8192x256.Idx) = (wR p).set :=
  (View.set_reshape _ _).trans (View.set_slice_whole _ _)
theorem w_disj (p p' : Fin 2) (h : p ≠ p') : Disjoint (wR p).set (wR p').set :=
  Ring.lead_disjoint (s := S2x8192x256) (0 : Fin 3) 1 (fun p : Fin 2 => ![p.val, 0, 0]) S1x8192x256.size wInb (fun b => (Nat.one_mul _).symm) rfl p p' h
theorem w_cover : Finset.univ.biUnion (fun p : Fin 2 => (wR p).set) = Finset.univ :=
  Ring.lead_cover (s := S2x8192x256) (0 : Fin 3) 1 (fun p : Fin 2 => ![p.val, 0, 0]) S1x8192x256.size wInb (fun b => (Nat.one_mul _).symm)
    (fun b a h => only0 b a h) rfl (by decide) rfl
theorem wAny_eq (c : Dev nD) (p : Fin 2) :
    (wAny c p : sProp 𝕄) = iprop(∃ f : Buf (Elt F) ((c : Thread nD τ).loc cc0_scratch1), ((c : Thread nD τ).loc cc0_scratch1) ↦[(wR p).set]{fullShare} f) :=
  congrArg (fun I : Finset S2x8192x256.Idx => iprop(∃ f : Buf (Elt F) ((c : Thread nD τ).loc cc0_scratch1), ((c : Thread nD τ).loc cc0_scratch1) ↦[I]{fullShare} f)) (wSlot_set p)
theorem w_split (c : Dev nD) : iprop(∃ f, buf c cc0_scratch1 f) ⊢ (bigSep Finset.univ (wAny (F := F) c) : sProp 𝕄) := by
  iintro ⟨%f, H⟩
  have e : (((c : Thread nD τ).loc cc0_scratch1 ↦{fullShare} f : sProp 𝕄)) = bigSep Finset.univ fun p : Fin 2 => (((c : Thread nD τ).loc cc0_scratch1) ↦[(wR p).set]{fullShare} f) :=
    Ring.pointsTo_blocks (ℓ := (c : Thread nD τ).loc cc0_scratch1) (fun p : Fin 2 => (wR p).set) w_disj w_cover f
  have g : (bigSep Finset.univ fun p : Fin 2 => (((c : Thread nD τ).loc cc0_scratch1) ↦[(wR p).set]{fullShare} f) : sProp 𝕄) ⊢ bigSep Finset.univ (wAny (F := F) c) :=
    bigSep_mono fun p _ => (anyI c cc0_scratch1 (wR p).set f).trans (Entails.of_eq (wAny_eq c p).symm)
  ihave H := (Entails.of_eq e) $$ H
  iapply g $$ H
include m in
theorem w_join (c : Dev nD) : (bigSep Finset.univ (wAny (F := F) c) : sProp 𝕄) ⊢ iprop(∃ f, buf c cc0_scratch1 f) :=
  (bigSep_mono fun p _ => Entails.of_eq (wAny_eq c p)).trans
    (Ring.pointsTo_blocks_join_exists (ℓ := (c : Thread nD τ).loc cc0_scratch1) (fun p : Fin 2 => (wR p).set) w_disj w_cover (m _))
theorem sSlot_set (p : Fin 15) : ((sSlot p).view.set : Finset S15x512x256.Idx) = (sR p).set :=
  (View.set_reshape _ _).trans (View.set_slice_whole _ _)
theorem s_disj (p p' : Fin 15) (h : p ≠ p') : Disjoint (sR p).set (sR p').set :=
  Ring.lead_disjoint (s := S15x512x256) (0 : Fin 3) 1 (fun p : Fin 15 => ![p.val, 0, 0]) S1x512x256.size sInb (fun b => (Nat.one_mul _).symm) rfl p p' h
theorem s_cover : Finset.univ.biUnion (fun p : Fin 15 => (sR p).set) = Finset.univ :=
  Ring.lead_cover (s := S15x512x256) (0 : Fin 3) 1 (fun p : Fin 15 => ![p.val, 0, 0]) S1x512x256.size sInb (fun b => (Nat.one_mul _).symm)
    (fun b a h => only0 b a h) rfl (by decide) rfl
theorem sAny_eq (c : Dev nD) (p : Fin 15) :
    (anySlot c (sSlot p) : sProp 𝕄) = iprop(∃ f : Buf (Elt F) ((c : Thread nD τ).loc cc0_scratch2), ((c : Thread nD τ).loc cc0_scratch2) ↦[(sR p).set]{fullShare} f) :=
  congrArg (fun I : Finset S15x512x256.Idx => iprop(∃ f : Buf (Elt F) ((c : Thread nD τ).loc cc0_scratch2), ((c : Thread nD τ).loc cc0_scratch2) ↦[I]{fullShare} f)) (sSlot_set p)
theorem s_split (c : Dev nD) : iprop(∃ f, buf c cc0_scratch2 f) ⊢ (sendSlots c : sProp 𝕄) := by
  iintro ⟨%f, H⟩
  have e : (((c : Thread nD τ).loc cc0_scratch2 ↦{fullShare} f : sProp 𝕄)) = bigSep Finset.univ fun p : Fin 15 => (((c : Thread nD τ).loc cc0_scratch2) ↦[(sR p).set]{fullShare} f) :=
    Ring.pointsTo_blocks (ℓ := (c : Thread nD τ).loc cc0_scratch2) (fun p : Fin 15 => (sR p).set) s_disj s_cover f
  have g : (bigSep Finset.univ fun p : Fin 15 => (((c : Thread nD τ).loc cc0_scratch2) ↦[(sR p).set]{fullShare} f) : sProp 𝕄) ⊢ sendSlots c :=
    bigSep_mono fun p _ => (anyI c cc0_scratch2 (sR p).set f).trans (Entails.of_eq (sAny_eq c p).symm)
  ihave H := (Entails.of_eq e) $$ H
  iapply g $$ H
include m in
theorem s_join (c : Dev nD) : (sendSlots c : sProp 𝕄) ⊢ iprop(∃ f, buf c cc0_scratch2 f) :=
  (bigSep_mono fun p _ => Entails.of_eq (sAny_eq c p)).trans
    (Ring.pointsTo_blocks_join_exists (ℓ := (c : Thread nD τ).loc cc0_scratch2) (fun p : Fin 15 => (sR p).set) s_disj s_cover (m _))
theorem rSlot_set (p : Dev nD) : ((rSlot p).view.set : Finset S16x512x256.Idx) = (rR p).set :=
  (View.set_reshape _ _).trans (View.set_slice_whole _ _)
theorem r_disj (p p' : Dev nD) (h : p ≠ p') : Disjoint (rR p).set (rR p').set :=
  Ring.lead_disjoint (s := S16x512x256) (0 : Fin 3) 1 (fun p : Fin 16 => ![p.val, 0, 0]) S1x512x256.size rInb (fun b => (Nat.one_mul _).symm) rfl p p' h
theorem r_cover : Finset.univ.biUnion (fun p : Dev nD => (rR p).set) = Finset.univ :=
  Ring.lead_cover (s := S16x512x256) (0 : Fin 3) 1 (fun p : Fin 16 => ![p.val, 0, 0]) S1x512x256.size rInb (fun b => (Nat.one_mul _).symm)
    (fun b a h => only0 b a h) rfl (by decide) rfl
theorem rAny_eq (c : Dev nD) (p : Dev nD) :
    (anySlot c (rSlot p) : sProp 𝕄) = iprop(∃ f : Buf (Elt F) ((c : Thread nD τ).loc cc0_scratch3), ((c : Thread nD τ).loc cc0_scratch3) ↦[(rR p).set]{fullShare} f) :=
  congrArg (fun I : Finset S16x512x256.Idx => iprop(∃ f : Buf (Elt F) ((c : Thread nD τ).loc cc0_scratch3), ((c : Thread nD τ).loc cc0_scratch3) ↦[I]{fullShare} f)) (rSlot_set p)
theorem r_split (c : Dev nD) : iprop(∃ f, buf c cc0_scratch3 f) ⊢ (recvSlots c : sProp 𝕄) := by
  iintro ⟨%f, H⟩
  have e : (((c : Thread nD τ).loc cc0_scratch3 ↦{fullShare} f : sProp 𝕄)) = bigSep Finset.univ fun p : Dev nD => (((c : Thread nD τ).loc cc0_scratch3) ↦[(rR p).set]{fullShare} f) :=
    Ring.pointsTo_blocks (ℓ := (c : Thread nD τ).loc cc0_scratch3) (fun p : Dev nD => (rR p).set) r_disj r_cover f
  have g : (bigSep Finset.univ fun p : Dev nD => (((c : Thread nD τ).loc cc0_scratch3) ↦[(rR p).set]{fullShare} f) : sProp 𝕄) ⊢ recvSlots c :=
    bigSep_mono fun p _ => (anyI c cc0_scratch3 (rR p).set f).trans (Entails.of_eq (rAny_eq c p).symm)
  ihave H := (Entails.of_eq e) $$ H
  iapply g $$ H
include m in
theorem r_join (c : Dev nD) : (recvSlots c : sProp 𝕄) ⊢ iprop(∃ f, buf c cc0_scratch3 f) :=
  (bigSep_mono fun p _ => Entails.of_eq (rAny_eq c p)).trans
    (Ring.pointsTo_blocks_join_exists (ℓ := (c : Thread nD τ).loc cc0_scratch3) (fun p : Dev nD => (rR p).set) r_disj r_cover (m _))

/-! ## The second factor in halves -/

/-- The second factor whole, its slots and their semaphores. -/
def wParts (c : Dev nD) : sProp 𝕄 :=
  iprop(buf c main_arg1 (wOf m ρ c) ∗ (bigSep Finset.univ (wAny (F := F) c)) ∗ bigSep Finset.univ fun p : Fin 2 => semVal (wCell c p) 0)

theorem halves (c : Dev nD) : buf c main_arg1 (wOf m ρ c) ⊣⊢ iprop(wPts m ρ c 0 ∗ wPts m ρ c 1) :=
  pointsTo_share (PosShare.mem_left_op_right fullShare)

omit [FloatOps F] in
theorem two (Φ : Fin 2 → sProp 𝕄) : bigSep Finset.univ Φ = iprop(Φ 0 ∗ Φ 1) := bigSep_univ_eq_bigSepL [0, 1] (by decide) (by decide) Φ

theorem frees_in (c : Dev nD) : wParts m ρ c ⊢ frees m ρ c := by
  unfold wParts frees free wAny
  rw [two, two]
  iintro ⟨HW, ⟨H0, H1⟩, Hz0, Hz1⟩
  ihave HW := (halves m ρ c).1 $$ HW
  icases HW with ⟨HW0, HW1⟩
  isplitl [HW0 H0 Hz0]
  · isplitl [Hz0]; · iexact Hz0
    isplitl [H0]; · iexact H0
    iexact HW0
  · isplitl [Hz1]; · iexact Hz1
    isplitl [H1]; · iexact H1
    iexact HW1
theorem frees_out (c : Dev nD) : frees m ρ c ⊢ wParts m ρ c := by
  unfold wParts frees free wAny
  rw [two, two]
  iintro ⟨⟨Hz0, H0, HW0⟩, Hz1, H1, HW1⟩
  isplitl [HW0 HW1]
  · iapply (halves m ρ c).2
    isplitl [HW0]; · iexact HW0
    iexact HW1
  isplitl [H0 H1]
  · isplitl [H0]; · iexact H0
    iexact H1
  isplitl [Hz0]; · iexact Hz0
  iexact Hz1

/-! ## The proof data -/

/-- What a device starts from beside its buffers. -/
def start (c : Dev nD) : sProp 𝕄 :=
  iprop((∃ K, records m ρ K ∗ positions c ∗ payToks c) ∗ credits c ∗ buf c main_arg1 (wOf m ρ c)
    ∗ bigSep Finset.univ fun p : Fin 2 => semVal (wCell c p) 0)
/-- Its scratch buffers, each at some contents. -/
def scratch (c : Dev nD) : sProp 𝕄 :=
  iprop((∃ f, buf c cc0_scratch0 f) ∗ (∃ f, buf c cc0_scratch1 f) ∗ (∃ f, buf c cc0_scratch2 f) ∗ ∃ f, buf c cc0_scratch3 f)
def Φ₀ (c : Dev nD) : sProp 𝕄 := iprop(start m ρ c ∗ scratch c)
def Φ₁ (c : Dev nD) : sProp 𝕄 :=
  iprop(sems c ∗ (buf c main_arg1 (wOf m ρ c) ∗ bigSep Finset.univ fun p : Fin 2 => semVal (wCell c p) 0) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => outF m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 2) t0_0 d))
    ∗ (∃ d, stg c cc0_stg1_0 ((dats m ρ 0 c).before (1 : Fin 2) t0_0 d)))
def post (c : Dev nD) : sProp 𝕄 :=
  iprop(Φ₁ m ρ c ∗ (dats m ρ 0 c).owesAt () (t0_0 : Fin cfg0.N).succ ∗ stg c cc0_stg0_0 (xst m ρ c) ∗ stg c cc0_stg1_0 (outF m ρ c))

theorem pre_in (c : Dev nD) : pre m ρ c ⊢ iprop(∃ K, bodyIn m ρ K c) := by
  unfold pre Φ₀ start scratch bodyIn
  iintro ⟨⟨⟨⟨%K, HR, Hp, Ht⟩, Hc, HW, Hz⟩, Hb, Hw, Hs, Hr⟩, Ho, ⟨%d0, %g0, %hg0, Hx⟩, ⟨%d1, %g1, %hg1, Hout⟩⟩
  have hx : g0 = xst m ρ c := by rw [hg0]; unfold Dat.before; rw [if_pos (fetch_0 t0_0)]; rfl
  subst hx
  unfold Dat.owesAt Pipeline.owesWithin
  icases Ho with ⟨%W, %hW, HO⟩
  rw [show (dats m ρ 0 c).owed (t0_0 : Fin cfg0.N).castSucc = O₀ c from rfl]
  iexists K
  isplitl [HR]; · iexact HR
  isplitl [Hp]; · iexact Hp
  isplitl [Ht]; · iexact Ht
  isplitl [Hc]; · iexact Hc
  isplitl [HO]; · unfold owe; iexists W; iexact HO
  isplitl [Hx]; · iexact Hx
  isplitl [Hb]; · iexact Hb
  isplitl [Hout]; · iexists g1; iexact Hout
  isplitl [HW Hw Hz]
  · iapply (frees_in m ρ c)
    unfold wParts
    isplitl [HW]; · iexact HW
    isplitl [Hw]; · iapply (w_split c) $$ Hw
    iexact Hz
  isplitl [Hs]; · iapply (s_split c) $$ Hs
  iapply (r_split c) $$ Hr

theorem post_out (c : Dev nD) : bodyOut m ρ c ⊢ post m ρ c := by
  unfold bodyOut post Φ₁ scratch owe Dat.owesAt Pipeline.owesWithin
  iintro ⟨Hz, ⟨%W, HO⟩, Hx, Hb, Hout, Hf, Hs, Hr⟩
  ihave Hf := (frees_out m ρ c) $$ Hf
  unfold wParts
  icases Hf with ⟨HW, Hw, Hzw⟩
  isplitr [HO Hx Hout]
  · isplitl [Hz]; · iexact Hz
    isplitl [HW Hzw]
    · isplitl [HW]; · iexact HW
      iexact Hzw
    isplitl [Hb]; · iexact Hb
    isplitl [Hw]; · iapply (w_join m c) $$ Hw
    isplitl [Hs]; · iapply (s_join m c) $$ Hs
    iapply (r_join m c) $$ Hr
  isplitl [HO]
  · rw [show (dats m ρ 0 c).owed (t0_0 : Fin cfg0.N).succ = 0 from rfl]
    iexists W
    isplitr; · ipureintro; exact fun _ _ => Or.inl trivial
    iexact HO
  isplitl [Hx]
  · iexists _; isplitr; · (ipureintro; rfl)
    iexact Hx
  iexists _; isplitr; · (ipureintro; rfl)
  iexact Hout

theorem kernel_triple (c : Dev nD) :
    pre m ρ c ⊢ wp frame (wpE (defs₀ (F := F)) 𝒱₀ (c : Thread nD τ) none) Set.univ
      (cc0_body xM (Memref.isWhole_whole _) wM (Memref.isWhole_whole _) oM (Memref.isWhole_whole _)
      bM (Memref.isWhole_whole _) wbM (Memref.isWhole_whole _) sbM (Memref.isWhole_whole _) rbM (Memref.isWhole_whole _)
      cc0_scratch4 cc0_scratch5 cc0_scratch6) (fun _ => post m ρ c) := by
  rw [cc0_body_eq_skeleton, body_eq, wp_deviceId]
  iintro H
  ihave H := (pre_in m ρ c) $$ H
  icases H with ⟨%K, H⟩
  iapply (wp_body m ρ K c (fun _ => post m ρ c))
  isplitl [H]; · iexact H
  iintro H
  iapply (post_out m ρ c) $$ H

set_option maxRecDepth 20000 in
/-- The body's obligation on a device. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact kernel_triple m ρ c

end Cert.DistSilu
-- ==== Proof.Deal.lean ====
/-
# What the launch deals

The cells' rounds funded at the launch, their invariants allocated, every duty's token handed to the device that pays it, and
each device's credit: fifteen units on its barrier semaphore and one block on each receive semaphore of another device.
-/
module

public import proofs.«01_k».proof.Proof.Region

@[expose] public section

noncomputable section

namespace Cert.DistSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The cells and the duties -/

/-- The kernel's own semaphores: two for the column blocks, fifteen for the sends, sixteen for the receives. -/
abbrev osem : Fin 2 ⊕ (Fin 15 ⊕ Dev nD) → SemLoc sig
  | .inl p => .dma (wSem p).sem
  | .inr x => csem (some x)

theorem ownSemFacts : Pipeline.OwnSemFacts cfg0.spec osem := by decide +kernel

theorem csem_inj : ∀ k k' : CI, csem k = csem k' → k = k' := by decide +kernel

theorem kcell_injective : Function.Injective kcell := fun a b h => by
  have h1 : a.1 = b.1 := congrArg (fun g : GSem nD τ sig => g.1.1) h
  have h2 : csem a.2 = csem b.2 := congrArg Prod.snd h
  exact Prod.ext h1 (csem_inj _ _ h2)
def ringCells : Finset (GSem nD τ sig) := Finset.univ.map ⟨kcell, kcell_injective⟩

/-- Which semaphore, and which duty on it. -/
abbrev DI : Type := Dev nD ⊕ (Fin 15 ⊕ Dev nD)
abbrev dsem : DI → CI × Dev nD
  | .inl e => (none, e)
  | .inr x => (some x, 0)
theorem dsem_inj (a b : DI) (h : dsem a = dsem b) : a = b := by
  rcases a with a | a <;> rcases b with b | b
  · exact congrArg Sum.inl (congrArg Prod.snd h)
  · exact absurd (congrArg Prod.fst h) (fun h => by cases h)
  · exact absurd (congrArg Prod.fst h) (fun h => by cases h)
  · exact congrArg Sum.inr (Option.some.inj (congrArg Prod.fst h))
abbrev tokOf (cj : Dev nD × DI) : GSem nD τ sig × ℕ × Dev nD := (kcell (cj.1, (dsem cj.2).1), 0, (dsem cj.2).2)
theorem tokOf_injective : Function.Injective tokOf := fun a b h => by
  have h1 := kcell_injective (congrArg Prod.fst h)
  have h2 : (dsem a.2).2 = (dsem b.2).2 := congrArg (fun x : GSem nD τ sig × ℕ × Dev nD => x.2.2) h
  have h3 : (dsem a.2).1 = (dsem b.2).1 := congrArg (fun x : Dev nD × CI => x.2) h1
  have h4 : a.1 = b.1 := congrArg (fun x : Dev nD × CI => x.1) h1
  exact Prod.ext h4 (dsem_inj _ _ (Prod.ext h3 h2))
def ringToks : Finset (GSem nD τ sig × ℕ × Dev nD) := Finset.univ.map ⟨tokOf, tokOf_injective⟩

def u₀ : UU := (initOf (Pipeline.cells cfgs cellOf_inj) (Pipeline.launchToks cfgs cellOf_inj), (initOf ringCells ringToks, 1))

/-! ## Families over a device's semaphores -/

omit [FloatOps F] in
theorem fam_ci (Φ : CI → sProp 𝕄) : bigSep Finset.univ Φ
    = iprop(Φ none ∗ (bigSep Finset.univ fun i : Fin 15 => Φ (some (.inl i))) ∗ bigSep Finset.univ fun j : Dev nD => Φ (some (.inr j))) := by
  rw [bigSep_univ_at Φ none, show (Finset.univ : Finset CI).erase none = Finset.univ.map Function.Embedding.some from by
    ext x; cases x
    · simp
    · simp,
    BI.bigSep_map, BI.bigSep_univ_sum]; rfl
omit [FloatOps F] in
theorem fam_di (Φ : DI → sProp 𝕄) : bigSep Finset.univ Φ
    = iprop((bigSep Finset.univ fun e : Dev nD => Φ (.inl e)) ∗ (bigSep Finset.univ fun i : Fin 15 => Φ (.inr (.inl i)))
        ∗ bigSep Finset.univ fun j : Dev nD => Φ (.inr (.inr j))) := by
  rw [BI.bigSep_univ_sum, BI.bigSep_univ_sum]; rfl

/-! ## Funding -/

/-- All tokens of the duties on a device's own semaphores. -/
def toks (c : Dev nD) : sProp 𝕄 :=
  iprop((bigSep Finset.univ fun e : Dev nD => dutyTok ER (barCell c) 0 e) ∗ (bigSep Finset.univ fun i : Fin 15 => dutyTok ER (sendCell c i) 0 0)
    ∗ bigSep Finset.univ fun j : Dev nD => dutyTok ER (recvCell c j) 0 0)

def G (c : Dev nD) : sProp 𝕄 :=
  iprop((bigSep Finset.univ fun k : CI => roundState ER (rd m ρ) (kcell (c, k)) 0)
    ∗ (bigSep Finset.univ fun k : CI => iprop(atPos ER (kcell (c, k)) 0 ∅ 0 ∗ reached ER (kcell (c, k)) 0)) ∗ toks c)

theorem fund : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod]
    exact bigSep_congr fun c _ => by unfold toks; rw [fam_di]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

/-- The two semaphores of the column blocks. -/
def wSems (c : Dev nD) : sProp 𝕄 := bigSep Finset.univ fun p : Fin 2 => semVal (wCell c p) 0

omit [FloatOps F] in
theorem ownSems0_eq (c : Dev nD) : (Pipeline.ownSems0 (Ix := Unit) (Name := ℕ) (U := UU) (Lvl := ℕ) (Val := Elt F) (τ := τ) osem c : sProp 𝕄)
    = iprop(wSems c ∗ (bigSep Finset.univ fun i : Fin 15 => semVal (sendCell c i) 0) ∗ bigSep Finset.univ fun j : Dev nD => semVal (recvCell c j) 0) := by
  unfold Pipeline.ownSems0 wSems; rw [BI.bigSep_univ_sum, BI.bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k : CI => iprop(atPos ER (kcell (c, k)) 0 ∅ 0 ∗ reached ER (kcell (c, k)) 0)) ∗ toks c ∗ wSems c) := by
  unfold G
  rw [ownSems0_eq, unscopedSems0_eq]
  iintro ⟨⟨Hw, Hs, Hr⟩, Hb, Hst, Hat, Htok⟩
  ihave Hv := (Entails.of_eq (fam_ci (F := F) fun k => semVal (kcell (c, k)) 0).symm) $$ [Hb Hs Hr]
  · isplitl [Hb]; · iexact Hb
    isplitl [Hs]; · iexact Hs
    iexact Hr
  imod (show iprop((bigSep Finset.univ fun k : CI => semVal (kcell (c, k)) 0) ∗ bigSep Finset.univ fun k : CI => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hw

/-! ## Dealing -/

/-- `records` without the levels. -/
def marks : sProp 𝕄 :=
  iprop((bigSep Finset.univ fun ck : Dev nD × CI => cellInv ER (rd m ρ) (K ck) (kcell ck))
    ∗ bigSep Finset.univ fun ck : Dev nD × CI => reached ER (kcell ck) 0)
instance marks_persistent : BI.Persistent (marks m ρ K) := by unfold marks; infer_instance

def linear (c : Dev nD) : sProp 𝕄 := iprop(positions c ∗ payToks c ∗ wSems c)
def G' (c : Dev nD) : sProp 𝕄 := iprop(∃ K, marks m ρ K ∗ linear c)

omit [FloatOps F] in
theorem others (Φ : Dev nD → sProp 𝕄) (c : Dev nD) : bigSep Finset.univ Φ ⊢ bigSep (Finset.univ.erase c) Φ := bigSep_subset (Finset.erase_subset _ _)
omit [FloatOps F] in
theorem dealt (c : Dev nD) : (iprop((bigSep Finset.univ fun e : Dev nD => dutyTok ER (barCell e) 0 c) ∗ (bigSep Finset.univ fun i : Fin 15 => dutyTok ER (sendCell c i) 0 0)
    ∗ bigSep Finset.univ fun j : Dev nD => dutyTok ER (recvCell j c) 0 0) : sProp 𝕄) ⊢ payToks c := by
  unfold payToks
  iintro ⟨H1, H2, H3⟩
  isplitl [H1]; · iapply (others (F := F) (fun e : Dev nD => dutyTok ER (barCell e) 0 c) c) $$ H1
  isplitl [H2]; · iexact H2
  iapply (others (F := F) (fun j : Dev nD => dutyTok ER (recvCell j c) 0 0) c) $$ H3
omit [FloatOps F] in
/-- Each token to the device whose duty it is. -/
theorem deal : (bigSep Finset.univ fun c : Dev nD => (toks c : sProp 𝕄)) ⊢ bigSep Finset.univ fun c : Dev nD => payToks c := by
  unfold toks
  rw [bigSep_sep', bigSep_sep', Pipeline.bigSep_univ_comm (fun c e : Dev nD => (dutyTok ER (barCell c) 0 e : sProp 𝕄)),
    Pipeline.bigSep_univ_comm (fun c j : Dev nD => (dutyTok ER (recvCell c j) 0 0 : sProp 𝕄)), ← bigSep_sep', ← bigSep_sep']
  exact bigSep_mono fun c _ => dealt c

theorem regroup :
    (bigSep Finset.univ fun c : Dev nD => iprop((bigSep Finset.univ fun k => iprop(∃ κ : ℕ, cellInv ER (rd m ρ) κ (kcell (c, k))))
          ∗ (bigSep Finset.univ fun k : CI => iprop(atPos ER (kcell (c, k)) 0 ∅ 0 ∗ reached ER (kcell (c, k)) 0)) ∗ toks c ∗ wSems c) : sProp 𝕄)
      ⊢ bigSep Finset.univ (G' m ρ) := by
  rw [bigSep_sep', bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hw⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (deal (F := F)) $$ Htok
  have g : ∀ c ∈ (Finset.univ : Finset (Dev nD)), iprop(marks m ρ K ∗ linear c) ⊢ G' m ρ c := fun c _ => by
    unfold G'; iintro ⟨H1, H2⟩; iexists K
    isplitl [H1]; · iexact H1
    iexact H2
  have h : (iprop((bigSep Finset.univ fun c : Dev nD => bigSep Finset.univ fun k : CI => atPos ER (kcell (c, k)) 0 ∅ 0)
      ∗ (bigSep Finset.univ fun c : Dev nD => payToks c) ∗ bigSep Finset.univ fun c : Dev nD => wSems c) : sProp 𝕄) ⊢ bigSep Finset.univ linear := by
    rw [← bigSep_sep', ← bigSep_sep']
    exact bigSep_mono fun c _ => show _ ⊢ linear c from Entails.of_eq (by unfold linear positions; rw [fam_ci])
  iapply (each (R := marks m ρ K) g)
  isplitr
  · unfold marks; isplitl; · iexact HI
    iexact HR
  · iapply h
    isplitl [Hat]; · iexact Hat
    isplitl [Htk]; · iexact Htk
    iexact Hw

/-- The one step that all devices' semaphores take part in. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.DistSilu
-- ==== Proof.Credit.lean ====
/-
# The launch credit

What the devices together owe a device at the launch: a unit from each other device on its barrier semaphore, and a block from
each other device on the receive semaphore of that device.
-/
module

public import proofs.«01_k».proof.Proof.Body

@[expose] public section

noncomputable section

namespace Cert.DistSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem recv_ne_bar (j : Dev nD) : (SemLoc.dma (recvS j) : SemLoc sig) ≠ .reg barS := fun h => by cases h
theorem recvS_inj : ∀ j j' : Dev nD, (SemLoc.dma (recvS j) : SemLoc sig) = .dma (recvS j') → j = j' := by decide +kernel

/-- A sum of tallies read at a cell. -/
theorem at_sum (S : Finset ℕ) (f : ℕ → CellTallies nD τ sig Unit) (g : GSem nD τ sig) : (∑ i ∈ S, f i) g () = ∑ i ∈ S, f i g () := by
  rw [Finset.sum_apply, Finsupp.finset_sum_apply]

theorem OB_bar (d c : Dev nD) : OB d 0 (barCell c) () = ∑ i ∈ Finset.Ico 0 15, if c = pk d i then 1 else 0 := by
  unfold OB; rw [at_sum]
  refine Finset.sum_congr rfl fun i _ => ?_
  rw [tallyAt_apply]
  by_cases h : c = pk d i
  · rw [if_pos h, if_pos ⟨by rw [h], rfl⟩]
  · rw [if_neg h, if_neg fun h' => h (congrArg (fun g : GSem nD τ sig => g.1.1) h'.1)]
theorem OB_recv (d c j : Dev nD) : OB d 0 (recvCell c j) () = 0 := by
  unfold OB; rw [at_sum]
  exact Finset.sum_eq_zero fun i _ => by
    rw [tallyAt_apply, if_neg fun h => recv_ne_bar j (congrArg Prod.snd h.1)]
theorem OR_bar (d c : Dev nD) : OR d 0 (barCell c) () = 0 := by
  unfold OR; rw [at_sum]
  exact Finset.sum_eq_zero fun i _ => by
    rw [tallyAt_apply, if_neg fun h => recv_ne_bar d (congrArg Prod.snd h.1).symm]
theorem OR_recv (d c j : Dev nD) : OR d 0 (recvCell c j) () = (∑ i ∈ Finset.Ico 0 15, if c = pk d i ∧ j = d then 1 else 0) * N := by
  unfold OR; rw [at_sum, Finset.sum_mul]
  refine Finset.sum_congr rfl fun i _ => ?_
  rw [tallyAt_apply]
  by_cases h : c = pk d i ∧ j = d
  · rw [if_pos h, if_pos ⟨by rw [h.1, h.2], rfl⟩, Nat.one_mul]
  · rw [if_neg h, if_neg fun h' => h ⟨congrArg (fun g : GSem nD τ sig => g.1.1) h'.1, recvS_inj _ _ (congrArg Prod.snd h'.1)⟩, Nat.zero_mul]

theorem count_bar : ∀ c : Dev nD, (∑ d : Dev nD, ∑ i ∈ Finset.Ico 0 15, if c = pk d i then 1 else 0) = 15 := by decide +kernel
theorem count_recv : ∀ c j : Dev nD, j ≠ c → (∑ d : Dev nD, ∑ i ∈ Finset.Ico 0 15, if c = pk d i ∧ j = d then 1 else 0) = 1 := by decide +kernel

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, ← count_bar c]
  refine Finset.sum_congr rfl fun d _ => ?_
  unfold O₀
  rw [Pi.add_apply, Finsupp.add_apply, OR_bar, OB_bar, Nat.zero_add]

theorem launch_recv (c j : Dev nD) (h : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same]
  have e : ∀ d ∈ (Finset.univ : Finset (Dev nD)), O₀ d (recvCell c j) () = (∑ i ∈ Finset.Ico 0 15, if c = pk d i ∧ j = d then 1 else 0) * N := fun d _ => by
    unfold O₀
    rw [Pi.add_apply, Finsupp.add_apply, OR_recv, OB_recv, Nat.add_zero]
  rw [Finset.sum_congr rfl e, ← Finset.sum_mul, count_recv c j h, Nat.one_mul]

/-- The receive semaphores, apart from one another. -/
def recvEmb : Dev nD ↪ SemLoc sig := ⟨fun j => .dma (recvS j), fun j j' => recvS_inj j j'⟩

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  have sub : (Finset.univ.erase c).map recvEmb ⊆ (Finset.univ : Finset (SemLoc sig)).erase (.reg barS) := fun x hx => by
    obtain ⟨j, -, rfl⟩ := Finset.mem_map.mp hx
    exact Finset.mem_erase.mpr ⟨recv_ne_bar j, Finset.mem_univ _⟩
  refine (bigSep_subset sub).trans ?_
  rw [BI.bigSep_map]
  exact bigSep_mono fun j hj => Entails.of_eq (congrArg cred (launch_recv c j (Finset.mem_erase.mp hj).1))

end Cert.DistSilu
-- ==== Proof.Launch.lean ====
/-
# The launch and the run

From any memory with zero counters every fair run ends, with the result of every device at `outF`, both arguments as they were
and every counter at zero.
-/
module

public import proofs.«01_k».proof.Proof.Deal
public import proofs.«01_k».proof.Proof.Credit
public import Idealize.ShloMosaic.Lib.Pipeline.CollectiveSegs

@[expose] public section

noncomputable section

namespace Cert.DistSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G' marks linear wSems
  iintro ⟨HW, Hlev, Hcr, -, ⟨%K, ⟨HI, HR⟩, Hp, Ht, Hz⟩⟩
  ihave Hc := (creds (F := F) c) $$ Hcr
  imodintro
  unfold start records
  isplitl
  · isplitl [HI HR Hlev Hp Ht]
    · iexists K
      isplitl [HI HR Hlev]
      · isplitl [HI]; · iexact HI
        isplitl [HR]; · iexact HR
        iexact Hlev
      isplitl [Hp]; · iexact Hp
      iexact Ht
    isplitl [Hc]; · iexact Hc
    isplitl [HW]; · iexact HW
    iexact Hz
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What a device ends with: its barrier semaphore at zero and the second factor as it was. -/
def done (c : Dev nD) : sProp 𝕄 := iprop(unscopedSems0 c ∗ buf c main_arg1 (wOf m ρ c))

theorem phi1_exit (c : Dev nD) :
    (dats m ρ 0 c).Φ (Fin.last cfg0.N) ⊢ iprop(done m ρ c ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ sems scratch done wSems
  rw [unscopedSems0_eq]
  iintro ⟨⟨HzB, HzS, HzV⟩, ⟨HW, Hz⟩, Hr⟩
  isplitl [HzB HW]
  · isplitl [HzB] <;> iassumption
  isplitr [Hr]
  · isplitl [Hz]; · iexact Hz
    isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ (n := 0) (by fin_cases w <;> fin_cases s <;> rfl) (by
      rcases t with ⟨_ | _, ht⟩
      · exact Above.O₀ c
      · exact Above.zero 0)

/-- What is read off a device's end. -/
def Ended (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem ended (c : Dev nD) (s' : Phys nD τ sig (Elt F)) :
    (iprop(done m ρ c ∗ emp ∗ SI s') : sProp 𝕄) ⊢ |={Set.univ}=> iprop(⌜Ended m c s'.mem⌝ ∗ SI s') := by
  unfold done
  iintro ⟨⟨Hu, HW⟩, -, HSI⟩
  icombine HSI HW gives %hW
  imod (Pipeline.unscopedSems0_read (X := unscopedSems0 c) (c := c) fupd_intro s') $$ [Hu HSI] with ⟨%hz, HSI⟩
  · isplitl [Hu] <;> iassumption
  imodintro
  isplitr
  · ipureintro; exact ⟨hz, Buf.eq_of_forall_mem_univ hW⟩
  iexact HSI

/-! ## The run -/

def finalA (c : Dev nD) (w : Fin cfg0.W) : Buf (Elt F) ((cfg0.win w).arr.view.loc (c : Thread nD τ)) := (dats m ρ 0 c).arrAt w cfg0.N

def Run (r : PUnit × MemSt nD τ sig (Elt F)) : Prop :=
  (∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)) ∧ r.2.sem = fun _ => 0

set_option maxRecDepth 8000 in
theorem run_main : θ_run defs (onTc (τ := τ) (main (F := F))) (s₀ m ρ) (Run m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund m ρ) $$ HX with HG
      imodintro
      isplitl [HP] <;> iassumption)
    (hglob := glob m ρ)
    (hA := fun _ _ => rfl) (hpf := fun _ k => k.elim0)
    (X := start m ρ) (Y := done m ρ) (Z := fun _ => iprop(emp))
    (hX := start_intro m ρ) (hin := phi0_intro m ρ) (hout := phi1_exit m ρ)
    (QY := fun c s => Ended m c s)
    (hY := ended m ρ)
    (hQ := fun _ h hs => ⟨fun c => ⟨fun w => (h c).1 w, (h c).2.2.2⟩, sem_eq_zero hs fun c => (h c).2.2.1⟩)

/-- The first factor is as it was. -/
theorem finalA_x (c : Dev nD) : finalA m ρ c (0 : Fin 2) = m ((c : Thread nD τ).loc main_arg0) :=
  (dats (F := F) m ρ 0 c).arrAt_in (0 : Fin 2) rfl _

end Cert.DistSilu
-- ==== Proof.Frames.lean ====
/-
The result array after the run in closed form (`outF`), and what the two kernel programs' frames say: both arguments as they
were and every counter at zero. The run is one theorem over any float values; here it is read twice.
-/
module

public import proofs.«01_k».proof.Defs
public import proofs.«01_k».proof.Proof.Launch
public import proofs.«01_k».proof.Proof.Gen.Kernel
public import proofs.«01_k».proof.Proof.Gen.KernelIdeal.Points

@[expose] public section

noncomputable section

namespace Cert.DistSilu

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- The one block of a window that covers its array starts at the origin. -/
theorem out_origin : (fun a => (win0_1.index (0 : Fin 1)) a * main_v1.ty.shape.size a) = fun _ => 0 :=
  funext fun a => by fin_cases a <;> decide

theorem in_origin : (fun a => (win0_0.index (0 : Fin 1)) a * main_arg0.ty.shape.size a) = fun _ => 0 :=
  funext fun a => by fin_cases a <;> decide

/-- The staged first factor is the array. -/
theorem xst_eq (c : Dev nD) : xst m ρ c = m ((c : Thread nD τ).loc main_arg0) :=
  Memref.read_access_unit_zero (Elt F) main_arg0 in_origin (fun a => by fin_cases a <;> decide) _

/-- The result array ends at the body's value. -/
theorem finalA_o (c : Dev nD) : finalA m ρ c (1 : Fin 2) = outF m ρ c := by
  have h : (win0_1.blk (0 : Fin 1)).view.read (Elt F) (finalA m ρ c (1 : Fin 2)) = outF m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from flush0_1 (0 : Fin 1), if_pos rfl]
    exact View.read_write_univ _ _
  exact (Memref.read_access_unit_zero (Elt F) main_v1 out_origin (fun a => by fin_cases a <;> decide) _).symm.trans h

/-- The run, read at the program's three arrays. -/
theorem run_arrays : θ_run defs (onTc (τ := τ) (main (F := F))) ⟨m, fun _ => 0, ρ⟩ fun r =>
    (∀ c : Dev nD, r.2.mem ((c : Thread nD τ).loc main_v1) = outF m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => ⟨((h.1 c).1 (1 : Fin 2)).trans (finalA_o m ρ c),
    ((h.1 c).1 (0 : Fin 2)).trans (finalA_x m ρ c), (h.1 c).2⟩, h.2⟩) (run_main m ρ)

end Cert.DistSilu

namespace Cert.DistSilu

open Idealize.ShloMosaic Idealize.SL.Sem

theorem frame_kernelIdeal : Cert.quiescent_KernelIdeal := fun m ρ _ =>
  (θ_run Cert.KernelIdeal.defs _ _).mono (fun _ h => ⟨fun c => (h.1 c).2, h.2⟩) (run_arrays (F := Ideal) m ρ)

/-- The printed kernel is the ideal one's text: the two body tables are one. -/
theorem defs₀_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  rcases l with ⟨_ | _, h⟩
  · rfl
  · exact absurd h (Nat.not_lt.2 (Nat.le_add_left _ _))

theorem defs_eq : Cert.Kernel.defs (F := Bits) = Cert.KernelIdeal.defs (F := Bits) :=
  congrArg (Pipeline.defs (Cert.Kernel.pcfgs (F := Bits))) defs₀_eq

/-- So the same run serves. -/
theorem frame_kernel : Cert.quiescent_Kernel := by
  intro m ρ _
  rw [defs_eq]
  exact (θ_run (Cert.KernelIdeal.defs (F := Bits)) (onTc (τ := Cert.KernelIdeal.τ) (Cert.KernelIdeal.main (F := Bits))) _).mono
    (fun _ h => ⟨fun c => (h.1 c).2, h.2⟩) (run_arrays (F := Bits) m ρ)

end Cert.DistSilu
-- ==== Proof.RefRun.lean ====
/-
The run of the reference program on its one device: its result buffer ends at `refOut` of its arguments, which no operation
writes.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-- The product of the two arguments. -/
abbrev dot (x : FVec F S8192x8192 .f32) (w : FVec F S8192x4096 .f32) : FVec F S8192x4096 .f32 :=
  Host.dotGeneral dot_S8192x8192_S8192x4096_S8192x4096_1_0_0_1_n_n none x w

/-- A constant over the whole result. -/
abbrev fill (k : BitVec 32) : FVec F S8192x4096 .f32 := broadcastInDim S8192x4096 ![] bcast_S_S8192x4096 (constant S_ .f32 k)

/-- `y / (1 + exp(-clip(y, -60, 60)))`, element by element, of a product `y`. -/
abbrev clipSilu (y : FVec F S8192x4096 .f32) : FVec F S8192x4096 .f32 :=
  Host.divf y (addf (fill 0x3F800000#32) (Host.exp (Host.negf (minimumf (fill 0x42700000#32) (maximumf (fill 0xC2700000#32) y)))))

abbrev refOut (x : FVec F S8192x8192 .f32) (w : FVec F S8192x4096 .f32) : FVec F S8192x4096 .f32 := clipSilu (dot x w)

abbrev ops : List (HloOp τ sig (Elt F)) :=
  [ binary main_arg0 main_arg1 main_v0 (fun l r => Host.dotGeneral dot_S8192x8192_S8192x4096_S8192x4096_1_0_0_1_n_n none l r),
    nullary main_cst (constant S_ .f32 0xC2700000#32),
    nullary main_cst_0 (constant S_ .f32 0x42700000#32),
    unary main_cst main_call0_v0 id,
    unary main_call0_v0 main_call0_v1 (broadcastInDim S8192x4096 ![] bcast_S_S8192x4096),
    binary main_call0_v1 main_v0 main_call0_v2 maximumf,
    unary main_cst_0 main_call0_v3 id,
    unary main_call0_v3 main_call0_v4 (broadcastInDim S8192x4096 ![] bcast_S_S8192x4096),
    binary main_call0_v4 main_call0_v2 main_v1 minimumf,
    unary main_v1 main_v2 Host.negf,
    unary main_v2 main_v3 Host.exp,
    nullary main_cst_1 (constant S_ .f32 0x3F800000#32),
    unary main_cst_1 main_v4 (broadcastInDim S8192x4096 ![] bcast_S_S8192x4096),
    binary main_v4 main_v3 main_v5 addf,
    binary main_v0 main_v5 main_v6 Host.divf ]

theorem main_eq (c : Dev nD) : main (F := F) c = seq ops := rfl

theorem out_eq (V : Valuation τ sig (Elt F)) :
    after ops V (main_v6 : DevRef τ sig) = refOut (V (main_arg0 : DevRef τ sig)) (V (main_arg1 : DevRef τ sig)) := by
  after_results
  rfl

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., nullary_bufs_sub ..,
    unary_bufs_sub .., binary_bufs_sub .., binary_bufs_sub ..⟩

theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6)
            = refOut (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun r h => ⟨fun c => ⟨(h c main_v6).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

theorem frame_referenceIdeal : Cert.quiescent_ReferenceIdeal := fun m ρ _ =>
  (θ_run Cert.ReferenceIdeal.defs _ _).mono (fun _ h => ⟨fun c => (h.1 c).2, h.2⟩) (run (F := Ideal) m ρ)

end Cert.RefRun
-- ==== Proof.SiluRun.lean ====
/-
The run of the reference without the clip on its one device, and the side conditions that its program and the mask's text
state.
-/
module

public import proofs.«01_k».proof.Defs
public import Idealize.ShloMosaic.Lib.StableHlo.Run
public import Idealize.ShloMosaic.Lib.Quiescent

@[expose] public section

noncomputable section

namespace Cert.MaskFacts

open Cert.On_in_clip Idealize.ShloMosaic

instance facts : Cert.On_in_clip.Facts where
  bcast_S_S8192x4096 := by decide
  dot_S8192x8192_S8192x4096_S8192x4096_1_0_0_1_n_n_wf := by decide

end Cert.MaskFacts

namespace Cert.SiluRun

open Cert.SiluIdeal
open Idealize.ShloMosaic Idealize.ShloMosaic.TcCoe Idealize.ShloMosaic.StableHlo Idealize.SL.Sem

variable {F : FTy → Type} [FloatOps F]

instance facts₀ : Cert.SiluIdeal.Facts₀ where
  bcast_S_S8192x4096 := by decide
  dot_S8192x8192_S8192x4096_S8192x4096_1_0_0_1_n_n_wf := by decide

instance facts : Cert.SiluIdeal.Facts where

/-- The product of the two arguments. -/
abbrev dot (x : FVec F S8192x8192 .f32) (w : FVec F S8192x4096 .f32) : FVec F S8192x4096 .f32 :=
  Host.dotGeneral dot_S8192x8192_S8192x4096_S8192x4096_1_0_0_1_n_n none x w

/-- `y / (1 + exp(-y))`, element by element, of a product `y`. -/
abbrev silu (y : FVec F S8192x4096 .f32) : FVec F S8192x4096 .f32 :=
  Host.divf y (addf (broadcastInDim S8192x4096 ![] Facts₀.bcast_S_S8192x4096 (constant S_ .f32 0x3F800000#32)) (Host.exp (Host.negf y)))

abbrev refOut (x : FVec F S8192x8192 .f32) (w : FVec F S8192x4096 .f32) : FVec F S8192x4096 .f32 := silu (dot x w)

abbrev ops : List (HloOp τ sig (Elt F)) :=
  [ binary main_arg0 main_arg1 main_v0 (fun l r => Host.dotGeneral dot_S8192x8192_S8192x4096_S8192x4096_1_0_0_1_n_n none l r),
    unary main_v0 main_v1 Host.negf,
    unary main_v1 main_v2 Host.exp,
    nullary main_cst (constant S_ .f32 0x3F800000#32),
    unary main_cst main_v3 (broadcastInDim S8192x4096 ![] Facts₀.bcast_S_S8192x4096),
    binary main_v3 main_v2 main_v4 addf,
    binary main_v0 main_v4 main_v5 Host.divf ]

theorem main_eq (c : Dev nD) : main (F := F) c = seq ops := rfl

theorem out_eq (V : Valuation τ sig (Elt F)) :
    after ops V (main_v5 : DevRef τ sig) = refOut (V (main_arg0 : DevRef τ sig)) (V (main_arg1 : DevRef τ sig)) := by
  after_results

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., nullary_bufs_sub .., unary_bufs_sub .., binary_bufs_sub ..,
    binary_bufs_sub ..⟩

theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5)
            = refOut (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun r h => ⟨fun c => ⟨(h c main_v5).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

theorem frame_siluIdeal : Cert.quiescent_SiluIdeal := fun m ρ _ =>
  (θ_run Cert.SiluIdeal.defs _ _).mono (fun _ h => ⟨fun c => (h.1 c).2, h.2⟩) (run (F := Ideal) m ρ)

end Cert.SiluRun
-- ==== Proof.Maths.lean ====
/-
The mathematics, over the extended reals. Every element of the kernel's result and of either reference's is a function of one
sum: row times column. The kernel's epilogue `y * (1 / (1 + exp (0 - y)))` is `y / (1 + exp (-y))` at every extended real, since
the divisor is never zero; under the mask the reference's clip changes nothing.
-/
module

public import proofs.«01_k».proof.Proof.Frames
public import proofs.«01_k».proof.Proof.RefRun
public import proofs.«01_k».proof.Proof.SiluRun
public import Idealize.ShloMosaic.Lib.MatmulPlain
public import Idealize.ShloMosaic.Lib.KernelVsHost
public import Idealize.ShloMosaic.Lib.IdealHost

@[expose] public section

noncomputable section

namespace Cert.DistSilu

open Idealize.ShloMosaic Idealize.ShloMosaic.TcCoe Idealize.ShloMosaic.ValueIdx
open scoped BigOperators

/-! ## One element -/

theorem exp_nonneg (z : EReal) : 0 ≤ Ideal.exp z := by
  induction z using EReal.rec with
  | bot => exact le_rfl
  | top => exact le_top
  | coe r => exact EReal.coe_nonneg.mpr (Real.exp_pos r).le

theorem divisor_ne_zero (z : EReal) : 1 + Ideal.exp z ≠ 0 :=
  ne_of_gt (lt_of_lt_of_le zero_lt_one (le_add_of_nonneg_right (exp_nonneg z)))

/-- `y / (1 + exp (-y))` of one extended real. -/
def siluE (y : EReal) : EReal := Ideal.div y (1 + Ideal.exp (-y))

/-- Row `r` of `x` times column `l` of `w`. -/
def rowCol {M K N : ℕ} (x : (⟨2, ![M, K]⟩ : Shape).Idx → EReal) (w : (⟨2, ![K, N]⟩ : Shape).Idx → EReal) (r : Fin M) (l : Fin N) : EReal :=
  ∑ k : Fin K, x (ix2 r k) * w (ix2 k l)

/-- A plain product on the host at an element. -/
theorem host_dot {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (r : Fin M) (l : Fin N) :
    (Host.dotGeneral d none x w : FVec Ideal ⟨2, ![M, N]⟩ .f32) (ix2 r l) = rowCol x w r l := by
  subst hd
  rw [← matmul_zero_eq_dotGeneral]
  refine (Ideal.matmul_plain_apply none x w _ r l).trans ?_
  rw [show (constant (F := Ideal) ⟨2, ![M, N]⟩ .f32 0x00000000#32 : FVec Ideal ⟨2, ![M, N]⟩ .f32) (ix2 r l) = 0 from Ideal.ofBits_zero_f32, zero_add]
  rfl

/-! ## The references -/

theorem silu_apply (y : FVec Ideal Cert.SiluIdeal.S8192x4096 .f32) (i : Cert.SiluIdeal.S8192x4096.Idx) :
    Cert.SiluRun.silu (F := Ideal) y i = siluE (y i) := by
  show Ideal.div (y i) (Ideal.ofBits .f32 0x3F800000#32 + Ideal.exp (-(y i))) = _
  rw [Ideal.ofBits_one_f32]
  rfl

theorem siluRef_apply (x : FVec Ideal Cert.SiluIdeal.S8192x8192 .f32) (w : FVec Ideal Cert.SiluIdeal.S8192x4096 .f32) (r : Fin 8192) (l : Fin 4096) :
    Cert.SiluRun.refOut (F := Ideal) x w (ix2 r l) = siluE (rowCol x w r l) :=
  (silu_apply (Cert.SiluRun.dot x w) (ix2 r l)).trans (congrArg siluE (host_dot _ rfl x w r l))

/-- The mask's text, of a product `y`. -/
def between (y : FVec Ideal Cert.On_in_clip.S8192x4096 .f32) : IVec Cert.On_in_clip.S8192x4096 1 :=
  andi (cmpf .oge y (broadcastInDim Cert.On_in_clip.S8192x4096 ![] Cert.On_in_clip.Facts.bcast_S_S8192x4096 (constant (F := Ideal) Cert.On_in_clip.S_ .f32 0xC2700000#32)))
    (cmpf .ole y (broadcastInDim Cert.On_in_clip.S8192x4096 ![] Cert.On_in_clip.Facts.bcast_S_S8192x4096 (constant (F := Ideal) Cert.On_in_clip.S_ .f32 0x42700000#32)))

theorem between_bounds {y : FVec Ideal Cert.On_in_clip.S8192x4096 .f32} {i : Cert.On_in_clip.S8192x4096.Idx} (h : between y i = 1#1) :
    Ideal.ofBits .f32 0xC2700000#32 ≤ y i ∧ y i ≤ Ideal.ofBits .f32 0x42700000#32 := by
  have h' : BitVec.ofBool (decide (Ideal.ofBits .f32 0xC2700000#32 ≤ y i)) &&& BitVec.ofBool (decide (y i ≤ Ideal.ofBits .f32 0x42700000#32)) = 1#1 := h
  by_cases h1 : Ideal.ofBits .f32 0xC2700000#32 ≤ y i <;> by_cases h2 : y i ≤ Ideal.ofBits .f32 0x42700000#32
  · exact ⟨h1, h2⟩
  all_goals simp [h1, h2] at h'

/-- Between the bounds the clip changes nothing. -/
theorem clipSilu_apply (y : FVec Ideal Cert.ReferenceIdeal.S8192x4096 .f32) (i : Cert.ReferenceIdeal.S8192x4096.Idx)
    (hl : Ideal.ofBits .f32 0xC2700000#32 ≤ y i) (hh : y i ≤ Ideal.ofBits .f32 0x42700000#32) :
    Cert.RefRun.clipSilu (F := Ideal) y i = siluE (y i) := by
  show Ideal.div (y i) (Ideal.ofBits .f32 0x3F800000#32
    + Ideal.exp (-(min (Ideal.ofBits .f32 0x42700000#32) (max (Ideal.ofBits .f32 0xC2700000#32) (y i))))) = _
  rw [max_eq_right hl, min_eq_right hh, Ideal.ofBits_one_f32]
  rfl

theorem clipRef_apply (x : FVec Ideal Cert.ReferenceIdeal.S8192x8192 .f32) (w : FVec Ideal Cert.ReferenceIdeal.S8192x4096 .f32) (r : Fin 8192) (l : Fin 4096)
    (h : Cert.On_in_clip.fn (F := Ideal) x w (ix2 r l) = 1#1) :
    Cert.RefRun.refOut (F := Ideal) x w (ix2 r l) = siluE (rowCol x w r l) := by
  have hd : Cert.RefRun.dot (F := Ideal) x w (ix2 r l) = rowCol x w r l := host_dot _ rfl x w r l
  have hb := between_bounds (y := Cert.RefRun.dot (F := Ideal) x w) h
  exact (clipSilu_apply (Cert.RefRun.dot x w) (ix2 r l) hb.1 hb.2).trans (congrArg siluE hd)

/-! ## The kernel -/

section Kernel
open Cert.KernelIdeal Cert.KernelIdeal.Gen

theorem prodF_apply (x : Vec Ideal S512x8192 .bf16) (w : FVec Ideal S8192x256 .f32) (r : Fin 512) (l : Fin 256) :
    prodF (F := Ideal) x w (ix2 r l) = rowCol x w r l := by
  unfold prodF
  rw [show dot_S512x8192_S8192x256_S512x256_1_0_0_1_n_n = DotDims.plain 512 8192 256 from rfl]
  refine (Ideal.matmul_plain_apply none x _ _ r l).trans ?_
  rw [show (constant (F := Ideal) S512x256 .f32 0x00000000#32 : FVec Ideal S512x256 .f32) (ix2 r l) = 0 from Ideal.ofBits_zero_f32, zero_add]
  rfl

theorem siluF_apply (y : FVec Ideal S512x256 .f32) (i : S512x256.Idx) : siluF (F := Ideal) y i = siluE (y i) := by
  show y i * Ideal.div (Ideal.ofBits .f32 0x3F800000#32) (Ideal.ofBits .f32 0x3F800000#32 + Ideal.exp (Ideal.ofBits .f32 0x00000000#32 - y i)) = _
  rw [Ideal.ofBits_one_f32, Ideal.ofBits_zero_f32, zero_sub, Ideal.mul_one_div (divisor_ne_zero _)]
  rfl

variable (m : (ℓ : Loc nD τ sig) → Buf (Elt Ideal) ℓ) (ρ : Dev nD → PrngReg)

theorem xbf_eq (c : Dev nD) : xbf (F := Ideal) m ρ c = m ((c : Thread nD τ).loc main_arg0) := by
  rw [← xst_eq m ρ c]
  unfold xbf k0_pay1
  simp only [shapeCast_self]
  rfl

/-- Row block `j` of device `c`'s result, whether its own or received: one formula. -/
theorem outBlk_eq (c j : Dev nD) : outBlk (F := Ideal) m ρ c j = siluF (prodF (xbf m ρ j) (wblk m ρ j c)) := by
  unfold outBlk
  split
  · subst_vars; rfl
  · rfl

/-- The column block read at an element. -/
theorem wblk_apply (j c : Dev nD) (k : Fin 8192) (l : Fin 256) (hl : c.val * 256 + l.val < 4096) :
    wblk (F := Ideal) m ρ j c (ix2 k l) = wOf m ρ j (ix2 k ⟨c.val * 256 + l.val, hl⟩) := by
  have he : (wAt c).view.emb (ix2 k l) = ix2 k ⟨c.val * 256 + l.val, hl⟩ := by
    show (Rect.unit (s := S8192x4096) ![0, 256 * c.val] S8192x256.size (cInb c)).emb (ix2 k l) = _
    funext a
    apply Fin.ext
    match a with
    | ⟨0, _⟩ => show 0 + 1 * k.val = k.val; omega
    | ⟨1, _⟩ => show 256 * c.val + 1 * l.val = c.val * 256 + l.val; omega
  show wOf m ρ j ((wAt c).view.emb (ix2 k l)) = _
  rw [he]

/-- Every element of the kernel's result, of the whole factors. -/
theorem outF_value (X : FVec Ideal ⟨2, ![8192, 8192]⟩ .f32) (W : FVec Ideal ⟨2, ![8192, 4096]⟩ .f32)
    (hx : ∀ c : Dev nD, m ((c : Thread nD τ).loc main_arg0) = Layout.block ⟨2, ![512, 8192]⟩ ⟨2, ![8192, 8192]⟩ 0 16 c X)
    (hw : ∀ c : Dev nD, m ((c : Thread nD τ).loc main_arg1) = W)
    (c : Dev nD) (r : Fin 8192) (l : Fin 256) (hl : c.val * 256 + l.val < 4096) :
    outF (F := Ideal) m ρ c (ix2 r l) = siluE (rowCol X W r ⟨c.val * 256 + l.val, hl⟩) := by
  have hr : r.val / 512 < 16 := by omega
  let j : Dev nD := ⟨r.val / 512, hr⟩
  let r' : Fin 512 := ⟨r.val % 512, Nat.mod_lt _ (by decide)⟩
  have hin : rowIn (ix2 r l) = ix2 r' l := funext fun a => match a with | ⟨0, _⟩ => rfl | ⟨1, _⟩ => rfl
  rw [outF_eq, show rowDev (ix2 r l) = j from rfl, hin, outBlk_eq, siluF_apply, prodF_apply]
  refine congrArg siluE (Finset.sum_congr rfl fun k _ => ?_)
  rw [wblk_apply m ρ j c k l hl, xbf_eq, hx j]
  refine congrArg₂ (· * ·) ?_ (congrFun (hw j) _)
  rw [Layout.block_apply]
  refine congrArg X (funext fun a => Fin.ext ?_)
  match a with
  | ⟨0, _⟩ => show r.val / 512 * 512 + r.val % 512 = r.val; omega
  | ⟨1, _⟩ => rfl

end Kernel

end Cert.DistSilu
-- ==== Proof.lean ====
/-
The certificate's claims, put together. The kernel: sixteen devices multiply their row blocks of the first factor with every
column block of the second, exchange the products by remote copies and apply the epilogue. Its run is proved once, at any float
values and any device (Proof/Launch.lean, read off in Proof/Frames.lean); both frames and both value claims read it. Each
reference's run is in Proof/RefRun.lean and Proof/SiluRun.lean, and the mathematics in Proof/Maths.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Maths
public import Idealize.ShloMosaic.Adequacy
public import Idealize.ShloMosaic.Init

@[expose] public section

noncomputable section

namespace Cert.Proof

open Idealize.ShloMosaic Idealize.SL.Sem Idealize.ShloMosaic.ValueIdx Cert.DistSilu

/-- A column block's element in the whole array. -/
theorem cols_idx (h : Layout.Tiles ⟨2, ![8192, 256]⟩ ⟨2, ![8192, 4096]⟩ 1 16) (c : Fin 16) (r : Fin 8192) (l : Fin 256)
    (hl : c.val * 256 + l.val < 4096) : h.idx c (ix2 r l) = ix2 r ⟨c.val * 256 + l.val, hl⟩ := by
  funext a
  match a with
  | ⟨0, _⟩ => rfl
  | ⟨1, _⟩ => rfl

theorem col_lt (c : Fin 16) (l : Fin 256) : c.val * 256 + l.val < 4096 := by omega

/-- Every device's result is its column block of `silu (x @ w)`, at every element. -/
theorem algebraic_silu : Cert.algebraic_KernelIdeal_SiluIdeal := by
  intro m ρ m' ρ' _ hagree
  refine ⟨Cert.SiluRun.refOut (F := Ideal) (m' (((0 : Dev Cert.SiluIdeal.nD).tc : Thread _ Cert.SiluIdeal.τ).loc Cert.SiluIdeal.main_arg0))
    (m' (((0 : Dev Cert.SiluIdeal.nD).tc : Thread _ Cert.SiluIdeal.τ).loc Cert.SiluIdeal.main_arg1)), ?_, ?_⟩
  · refine (θ_run Cert.KernelIdeal.defs _ _).mono (fun _ h c => ⟨(h.1 c).1.trans ?_, (h.1 c).2⟩) (run_arrays (F := Ideal) m ρ)
    funext i
    obtain ⟨r, l, rfl⟩ : ∃ r l, i = ix2 r l := ⟨_, _, eq_ix2 i⟩
    rw [Layout.block_apply, cols_idx _ c r l (col_lt c l), siluRef_apply]
    exact outF_value m ρ _ _ (fun c => (hagree c).1) (fun c => (hagree c).2) c r l (col_lt c l)
  · exact (θ_run Cert.SiluIdeal.defs _ _).mono (fun _ h => h.1 0) (Cert.SiluRun.run (F := Ideal) m' ρ')

/-- Every device's result is its column block of the reference's, at the elements which the reference's clip leaves alone. -/
theorem algebraic_clip : Cert.algebraic_KernelIdeal_ReferenceIdeal_on_in_clip := by
  intro m ρ m' ρ' _ hagree
  refine ⟨Cert.RefRun.refOut (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨fun i hi => ?_, (h.1 c).2⟩) (run_arrays (F := Ideal) m ρ)
    obtain ⟨r, l, rfl⟩ : ∃ r l, i = ix2 r l := ⟨_, _, eq_ix2 i⟩
    rw [Layout.block_apply, cols_idx _ c r l (col_lt c l)] at hi ⊢
    rw [clipRef_apply _ _ r _ hi]
    exact (congrFun (h.1 c).1 _).trans (outF_value m ρ _ _ (fun c => (hagree c).1) (fun c => (hagree c).2) c r l (col_lt c l))
  · exact (θ_run Cert.ReferenceIdeal.defs _ _).mono (fun _ h => ⟨fun i _ => congrFun (h.1 0).1 i, (h.1 0).2⟩) (Cert.RefRun.run (F := Ideal) m' ρ')

theorem claim : Cert.Claim := ⟨Cert.Kernel.Gen.facts, Cert.KernelIdeal.Gen.facts, Cert.ReferenceIdeal.Gen.facts, Cert.SiluRun.facts, Cert.MaskFacts.facts,
  frame_kernel, frame_kernelIdeal, Cert.RefRun.frame_referenceIdeal, Cert.SiluRun.frame_siluIdeal, trivial, algebraic_clip, algebraic_silu⟩

end Cert.Proof

end
